-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S8x256x1024 : Shape := ⟨3, ![8, 256, 1024]⟩
abbrev S15x1x1024 : Shape := ⟨3, ![15, 1, 1024]⟩
abbrev S8 : Shape := ⟨1, ![8]⟩
abbrev S15 : Shape := ⟨1, ![15]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1024 : Shape := ⟨1, ![1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S8x256x1024, .bf16⟩
  | .local _ .vmem, ⟨3, _⟩ => ⟨S15x1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_251 : BitVec 32 := 1#32
  let v331 : BitVec 32 := Scalar.addi v2 c1_i32_251
  let c16_i32_252 : BitVec 32 := 16#32
  let c0_i32_253 : BitVec 32 := 0#32
  let v332 : BitVec 1 := Scalar.cmpi .eq c16_i32_252 c0_i32_253
  let c1_i32_254 : BitVec 32 := 1#32
  let v333 : BitVec 32 := Scalar.select v332 c1_i32_254 c16_i32_252
  let v334 : BitVec 32 := Scalar.remsi v331 v333
  let c0_i32_256 : BitVec 32 := 0#32
  let v336 : BitVec 1 := Scalar.cmpi .slt v334 c0_i32_256
  let c0_i32_257 : BitVec 32 := 0#32
  let v337 : BitVec 1 := Scalar.cmpi .slt v333 c0_i32_257
  let v338 : BitVec 1 := Scalar.xori v336 v337
  let c0_i32_255 : BitVec 32 := 0#32
  let v335 : BitVec 1 := Scalar.cmpi .ne v334 c0_i32_255
  let v339 : BitVec 1 := Scalar.andi v338 v335
  let v340 : BitVec 32 := Scalar.addi v334 v333
  let v341 : BitVec 32 := Scalar.select v339 v340 v334
  let c1_i32_261 : BitVec 32 := 1#32
  let v342 : BitVec 32 := Scalar.muli v341 c1_i32_261
  let v343 : BitVec 32 := Scalar.addi c0_i32_262 v342
  v343.toNat
def k0_dev17 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_265 : BitVec 32 := 2#32
  let v350 : BitVec 32 := Scalar.addi v2 c2_i32_265
  let c16_i32_266 : BitVec 32 := 16#32
  let c0_i32_267 : BitVec 32 := 0#32
  let v351 : BitVec 1 := Scalar.cmpi .eq c16_i32_266 c0_i32_267
  let c1_i32_268 : BitVec 32 := 1#32
  let v352 : BitVec 32 := Scalar.select v351 c1_i32_268 c16_i32_266
  let v353 : BitVec 32 := Scalar.remsi v350 v352
  let c0_i32_270 : BitVec 32 := 0#32
  let v355 : BitVec 1 := Scalar.cmpi .slt v353 c0_i32_270
  let c0_i32_271 : BitVec 32 := 0#32
  let v356 : BitVec 1 := Scalar.cmpi .slt v352 c0_i32_271
  let v357 : BitVec 1 := Scalar.xori v355 v356
  let c0_i32_269 : BitVec 32 := 0#32
  let v354 : BitVec 1 := Scalar.cmpi .ne v353 c0_i32_269
  let v358 : BitVec 1 := Scalar.andi v357 v354
  let v359 : BitVec 32 := Scalar.addi v353 v352
  let v360 : BitVec 32 := Scalar.select v358 v359 v353
  let c1_i32_275 : BitVec 32 := 1#32
  let v361 : BitVec 32 := Scalar.muli v360 c1_i32_275
  let v362 : BitVec 32 := Scalar.addi c0_i32_276 v361
  v362.toNat
def k0_dev18 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_279 : BitVec 32 := 3#32
  let v369 : BitVec 32 := Scalar.addi v2 c3_i32_279
  let c16_i32_280 : BitVec 32 := 16#32
  let c0_i32_281 : BitVec 32 := 0#32
  let v370 : BitVec 1 := Scalar.cmpi .eq c16_i32_280 c0_i32_281
  let c1_i32_282 : BitVec 32 := 1#32
  let v371 : BitVec 32 := Scalar.select v370 c1_i32_282 c16_i32_280
  let v372 : BitVec 32 := Scalar.remsi v369 v371
  let c0_i32_284 : BitVec 32 := 0#32
  let v374 : BitVec 1 := Scalar.cmpi .slt v372 c0_i32_284
  let c0_i32_285 : BitVec 32 := 0#32
  let v375 : BitVec 1 := Scalar.cmpi .slt v371 c0_i32_285
  let v376 : BitVec 1 := Scalar.xori v374 v375
  let c0_i32_283 : BitVec 32 := 0#32
  let v373 : BitVec 1 := Scalar.cmpi .ne v372 c0_i32_283
  let v377 : BitVec 1 := Scalar.andi v376 v373
  let v378 : BitVec 32 := Scalar.addi v372 v371
  let v379 : BitVec 32 := Scalar.select v377 v378 v372
  let c1_i32_289 : BitVec 32 := 1#32
  let v380 : BitVec 32 := Scalar.muli v379 c1_i32_289
  let v381 : BitVec 32 := Scalar.addi c0_i32_290 v380
  v381.toNat
def k0_dev19 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_293 : BitVec 32 := 4#32
  let v388 : BitVec 32 := Scalar.addi v2 c4_i32_293
  let c16_i32_294 : BitVec 32 := 16#32
  let c0_i32_295 : BitVec 32 := 0#32
  let v389 : BitVec 1 := Scalar.cmpi .eq c16_i32_294 c0_i32_295
  let c1_i32_296 : BitVec 32 := 1#32
  let v390 : BitVec 32 := Scalar.select v389 c1_i32_296 c16_i32_294
  let v391 : BitVec 32 := Scalar.remsi v388 v390
  let c0_i32_298 : BitVec 32 := 0#32
  let v393 : BitVec 1 := Scalar.cmpi .slt v391 c0_i32_298
  let c0_i32_299 : BitVec 32 := 0#32
  let v394 : BitVec 1 := Scalar.cmpi .slt v390 c0_i32_299
  let v395 : BitVec 1 := Scalar.xori v393 v394
  let c0_i32_297 : BitVec 32 := 0#32
  let v392 : BitVec 1 := Scalar.cmpi .ne v391 c0_i32_297
  let v396 : BitVec 1 := Scalar.andi v395 v392
  let v397 : BitVec 32 := Scalar.addi v391 v390
  let v398 : BitVec 32 := Scalar.select v396 v397 v391
  let c1_i32_303 : BitVec 32 := 1#32
  let v399 : BitVec 32 := Scalar.muli v398 c1_i32_303
  let v400 : BitVec 32 := Scalar.addi c0_i32_304 v399
  v400.toNat
def k0_dev20 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_307 : BitVec 32 := 5#32
  let v407 : BitVec 32 := Scalar.addi v2 c5_i32_307
  let c16_i32_308 : BitVec 32 := 16#32
  let c0_i32_309 : BitVec 32 := 0#32
  let v408 : BitVec 1 := Scalar.cmpi .eq c16_i32_308 c0_i32_309
  let c1_i32_310 : BitVec 32 := 1#32
  let v409 : BitVec 32 := Scalar.select v408 c1_i32_310 c16_i32_308
  let v410 : BitVec 32 := Scalar.remsi v407 v409
  let c0_i32_312 : BitVec 32 := 0#32
  let v412 : BitVec 1 := Scalar.cmpi .slt v410 c0_i32_312
  let c0_i32_313 : BitVec 32 := 0#32
  let v413 : BitVec 1 := Scalar.cmpi .slt v409 c0_i32_313
  let v414 : BitVec 1 := Scalar.xori v412 v413
  let c0_i32_311 : BitVec 32 := 0#32
  let v411 : BitVec 1 := Scalar.cmpi .ne v410 c0_i32_311
  let v415 : BitVec 1 := Scalar.andi v414 v411
  let v416 : BitVec 32 := Scalar.addi v410 v409
  let v417 : BitVec 32 := Scalar.select v415 v416 v410
  let c1_i32_317 : BitVec 32 := 1#32
  let v418 : BitVec 32 := Scalar.muli v417 c1_i32_317
  let v419 : BitVec 32 := Scalar.addi c0_i32_318 v418
  v419.toNat
def k0_dev21 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_321 : BitVec 32 := 6#32
  let v426 : BitVec 32 := Scalar.addi v2 c6_i32_321
  let c16_i32_322 : BitVec 32 := 16#32
  let c0_i32_323 : BitVec 32 := 0#32
  let v427 : BitVec 1 := Scalar.cmpi .eq c16_i32_322 c0_i32_323
  let c1_i32_324 : BitVec 32 := 1#32
  let v428 : BitVec 32 := Scalar.select v427 c1_i32_324 c16_i32_322
  let v429 : BitVec 32 := Scalar.remsi v426 v428
  let c0_i32_326 : BitVec 32 := 0#32
  let v431 : BitVec 1 := Scalar.cmpi .slt v429 c0_i32_326
  let c0_i32_327 : BitVec 32 := 0#32
  let v432 : BitVec 1 := Scalar.cmpi .slt v428 c0_i32_327
  let v433 : BitVec 1 := Scalar.xori v431 v432
  let c0_i32_325 : BitVec 32 := 0#32
  let v430 : BitVec 1 := Scalar.cmpi .ne v429 c0_i32_325
  let v434 : BitVec 1 := Scalar.andi v433 v430
  let v435 : BitVec 32 := Scalar.addi v429 v428
  let v436 : BitVec 32 := Scalar.select v434 v435 v429
  let c1_i32_331 : BitVec 32 := 1#32
  let v437 : BitVec 32 := Scalar.muli v436 c1_i32_331
  let v438 : BitVec 32 := Scalar.addi c0_i32_332 v437
  v438.toNat
def k0_dev22 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_335 : BitVec 32 := 7#32
  let v445 : BitVec 32 := Scalar.addi v2 c7_i32_335
  let c16_i32_336 : BitVec 32 := 16#32
  let c0_i32_337 : BitVec 32 := 0#32
  let v446 : BitVec 1 := Scalar.cmpi .eq c16_i32_336 c0_i32_337
  let c1_i32_338 : BitVec 32 := 1#32
  let v447 : BitVec 32 := Scalar.select v446 c1_i32_338 c16_i32_336
  let v448 : BitVec 32 := Scalar.remsi v445 v447
  let c0_i32_340 : BitVec 32 := 0#32
  let v450 : BitVec 1 := Scalar.cmpi .slt v448 c0_i32_340
  let c0_i32_341 : BitVec 32 := 0#32
  let v451 : BitVec 1 := Scalar.cmpi .slt v447 c0_i32_341
  let v452 : BitVec 1 := Scalar.xori v450 v451
  let c0_i32_339 : BitVec 32 := 0#32
  let v449 : BitVec 1 := Scalar.cmpi .ne v448 c0_i32_339
  let v453 : BitVec 1 := Scalar.andi v452 v449
  let v454 : BitVec 32 := Scalar.addi v448 v447
  let v455 : BitVec 32 := Scalar.select v453 v454 v448
  let c1_i32_345 : BitVec 32 := 1#32
  let v456 : BitVec 32 := Scalar.muli v455 c1_i32_345
  let v457 : BitVec 32 := Scalar.addi c0_i32_346 v456
  v457.toNat
def k0_dev23 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_349 : BitVec 32 := 8#32
  let v464 : BitVec 32 := Scalar.addi v2 c8_i32_349
  let c16_i32_350 : BitVec 32 := 16#32
  let c0_i32_351 : BitVec 32 := 0#32
  let v465 : BitVec 1 := Scalar.cmpi .eq c16_i32_350 c0_i32_351
  let c1_i32_352 : BitVec 32 := 1#32
  let v466 : BitVec 32 := Scalar.select v465 c1_i32_352 c16_i32_350
  let v467 : BitVec 32 := Scalar.remsi v464 v466
  let c0_i32_354 : BitVec 32 := 0#32
  let v469 : BitVec 1 := Scalar.cmpi .slt v467 c0_i32_354
  let c0_i32_355 : BitVec 32 := 0#32
  let v470 : BitVec 1 := Scalar.cmpi .slt v466 c0_i32_355
  let v471 : BitVec 1 := Scalar.xori v469 v470
  let c0_i32_353 : BitVec 32 := 0#32
  let v468 : BitVec 1 := Scalar.cmpi .ne v467 c0_i32_353
  let v472 : BitVec 1 := Scalar.andi v471 v468
  let v473 : BitVec 32 := Scalar.addi v467 v466
  let v474 : BitVec 32 := Scalar.select v472 v473 v467
  let c1_i32_359 : BitVec 32 := 1#32
  let v475 : BitVec 32 := Scalar.muli v474 c1_i32_359
  let v476 : BitVec 32 := Scalar.addi c0_i32_360 v475
  v476.toNat
def k0_dev24 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_363 : BitVec 32 := 9#32
  let v483 : BitVec 32 := Scalar.addi v2 c9_i32_363
  let c16_i32_364 : BitVec 32 := 16#32
  let c0_i32_365 : BitVec 32 := 0#32
  let v484 : BitVec 1 := Scalar.cmpi .eq c16_i32_364 c0_i32_365
  let c1_i32_366 : BitVec 32 := 1#32
  let v485 : BitVec 32 := Scalar.select v484 c1_i32_366 c16_i32_364
  let v486 : BitVec 32 := Scalar.remsi v483 v485
  let c0_i32_368 : BitVec 32 := 0#32
  let v488 : BitVec 1 := Scalar.cmpi .slt v486 c0_i32_368
  let c0_i32_369 : BitVec 32 := 0#32
  let v489 : BitVec 1 := Scalar.cmpi .slt v485 c0_i32_369
  let v490 : BitVec 1 := Scalar.xori v488 v489
  let c0_i32_367 : BitVec 32 := 0#32
  let v487 : BitVec 1 := Scalar.cmpi .ne v486 c0_i32_367
  let v491 : BitVec 1 := Scalar.andi v490 v487
  let v492 : BitVec 32 := Scalar.addi v486 v485
  let v493 : BitVec 32 := Scalar.select v491 v492 v486
  let c1_i32_373 : BitVec 32 := 1#32
  let v494 : BitVec 32 := Scalar.muli v493 c1_i32_373
  let v495 : BitVec 32 := Scalar.addi c0_i32_374 v494
  v495.toNat
def k0_dev25 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_377 : BitVec 32 := 10#32
  let v502 : BitVec 32 := Scalar.addi v2 c10_i32_377
  let c16_i32_378 : BitVec 32 := 16#32
  let c0_i32_379 : BitVec 32 := 0#32
  let v503 : BitVec 1 := Scalar.cmpi .eq c16_i32_378 c0_i32_379
  let c1_i32_380 : BitVec 32 := 1#32
  let v504 : BitVec 32 := Scalar.select v503 c1_i32_380 c16_i32_378
  let v505 : BitVec 32 := Scalar.remsi v502 v504
  let c0_i32_382 : BitVec 32 := 0#32
  let v507 : BitVec 1 := Scalar.cmpi .slt v505 c0_i32_382
  let c0_i32_383 : BitVec 32 := 0#32
  let v508 : BitVec 1 := Scalar.cmpi .slt v504 c0_i32_383
  let v509 : BitVec 1 := Scalar.xori v507 v508
  let c0_i32_381 : BitVec 32 := 0#32
  let v506 : BitVec 1 := Scalar.cmpi .ne v505 c0_i32_381
  let v510 : BitVec 1 := Scalar.andi v509 v506
  let v511 : BitVec 32 := Scalar.addi v505 v504
  let v512 : BitVec 32 := Scalar.select v510 v511 v505
  let c1_i32_387 : BitVec 32 := 1#32
  let v513 : BitVec 32 := Scalar.muli v512 c1_i32_387
  let v514 : BitVec 32 := Scalar.addi c0_i32_388 v513
  v514.toNat
def k0_dev26 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_391 : BitVec 32 := 11#32
  let v521 : BitVec 32 := Scalar.addi v2 c11_i32_391
  let c16_i32_392 : BitVec 32 := 16#32
  let c0_i32_393 : BitVec 32 := 0#32
  let v522 : BitVec 1 := Scalar.cmpi .eq c16_i32_392 c0_i32_393
  let c1_i32_394 : BitVec 32 := 1#32
  let v523 : BitVec 32 := Scalar.select v522 c1_i32_394 c16_i32_392
  let v524 : BitVec 32 := Scalar.remsi v521 v523
  let c0_i32_396 : BitVec 32 := 0#32
  let v526 : BitVec 1 := Scalar.cmpi .slt v524 c0_i32_396
  let c0_i32_397 : BitVec 32 := 0#32
  let v527 : BitVec 1 := Scalar.cmpi .slt v523 c0_i32_397
  let v528 : BitVec 1 := Scalar.xori v526 v527
  let c0_i32_395 : BitVec 32 := 0#32
  let v525 : BitVec 1 := Scalar.cmpi .ne v524 c0_i32_395
  let v529 : BitVec 1 := Scalar.andi v528 v525
  let v530 : BitVec 32 := Scalar.addi v524 v523
  let v531 : BitVec 32 := Scalar.select v529 v530 v524
  let c1_i32_401 : BitVec 32 := 1#32
  let v532 : BitVec 32 := Scalar.muli v531 c1_i32_401
  let v533 : BitVec 32 := Scalar.addi c0_i32_402 v532
  v533.toNat
def k0_dev27 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_405 : BitVec 32 := 12#32
  let v540 : BitVec 32 := Scalar.addi v2 c12_i32_405
  let c16_i32_406 : BitVec 32 := 16#32
  let c0_i32_407 : BitVec 32 := 0#32
  let v541 : BitVec 1 := Scalar.cmpi .eq c16_i32_406 c0_i32_407
  let c1_i32_408 : BitVec 32 := 1#32
  let v542 : BitVec 32 := Scalar.select v541 c1_i32_408 c16_i32_406
  let v543 : BitVec 32 := Scalar.remsi v540 v542
  let c0_i32_410 : BitVec 32 := 0#32
  let v545 : BitVec 1 := Scalar.cmpi .slt v543 c0_i32_410
  let c0_i32_411 : BitVec 32 := 0#32
  let v546 : BitVec 1 := Scalar.cmpi .slt v542 c0_i32_411
  let v547 : BitVec 1 := Scalar.xori v545 v546
  let c0_i32_409 : BitVec 32 := 0#32
  let v544 : BitVec 1 := Scalar.cmpi .ne v543 c0_i32_409
  let v548 : BitVec 1 := Scalar.andi v547 v544
  let v549 : BitVec 32 := Scalar.addi v543 v542
  let v550 : BitVec 32 := Scalar.select v548 v549 v543
  let c1_i32_415 : BitVec 32 := 1#32
  let v551 : BitVec 32 := Scalar.muli v550 c1_i32_415
  let v552 : BitVec 32 := Scalar.addi c0_i32_416 v551
  v552.toNat
def k0_dev28 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_419 : BitVec 32 := 13#32
  let v559 : BitVec 32 := Scalar.addi v2 c13_i32_419
  let c16_i32_420 : BitVec 32 := 16#32
  let c0_i32_421 : BitVec 32 := 0#32
  let v560 : BitVec 1 := Scalar.cmpi .eq c16_i32_420 c0_i32_421
  let c1_i32_422 : BitVec 32 := 1#32
  let v561 : BitVec 32 := Scalar.select v560 c1_i32_422 c16_i32_420
  let v562 : BitVec 32 := Scalar.remsi v559 v561
  let c0_i32_424 : BitVec 32 := 0#32
  let v564 : BitVec 1 := Scalar.cmpi .slt v562 c0_i32_424
  let c0_i32_425 : BitVec 32 := 0#32
  let v565 : BitVec 1 := Scalar.cmpi .slt v561 c0_i32_425
  let v566 : BitVec 1 := Scalar.xori v564 v565
  let c0_i32_423 : BitVec 32 := 0#32
  let v563 : BitVec 1 := Scalar.cmpi .ne v562 c0_i32_423
  let v567 : BitVec 1 := Scalar.andi v566 v563
  let v568 : BitVec 32 := Scalar.addi v562 v561
  let v569 : BitVec 32 := Scalar.select v567 v568 v562
  let c1_i32_429 : BitVec 32 := 1#32
  let v570 : BitVec 32 := Scalar.muli v569 c1_i32_429
  let v571 : BitVec 32 := Scalar.addi c0_i32_430 v570
  v571.toNat
def k0_dev29 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_433 : BitVec 32 := 14#32
  let v578 : BitVec 32 := Scalar.addi v2 c14_i32_433
  let c16_i32_434 : BitVec 32 := 16#32
  let c0_i32_435 : BitVec 32 := 0#32
  let v579 : BitVec 1 := Scalar.cmpi .eq c16_i32_434 c0_i32_435
  let c1_i32_436 : BitVec 32 := 1#32
  let v580 : BitVec 32 := Scalar.select v579 c1_i32_436 c16_i32_434
  let v581 : BitVec 32 := Scalar.remsi v578 v580
  let c0_i32_438 : BitVec 32 := 0#32
  let v583 : BitVec 1 := Scalar.cmpi .slt v581 c0_i32_438
  let c0_i32_439 : BitVec 32 := 0#32
  let v584 : BitVec 1 := Scalar.cmpi .slt v580 c0_i32_439
  let v585 : BitVec 1 := Scalar.xori v583 v584
  let c0_i32_437 : BitVec 32 := 0#32
  let v582 : BitVec 1 := Scalar.cmpi .ne v581 c0_i32_437
  let v586 : BitVec 1 := Scalar.andi v585 v582
  let v587 : BitVec 32 := Scalar.addi v581 v580
  let v588 : BitVec 32 := Scalar.select v586 v587 v581
  let c1_i32_443 : BitVec 32 := 1#32
  let v589 : BitVec 32 := Scalar.muli v588 c1_i32_443
  let v590 : BitVec 32 := Scalar.addi c0_i32_444 v589
  v590.toNat
def k0_dev30 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_447 : BitVec 32 := 15#32
  let v597 : BitVec 32 := Scalar.addi v2 c15_i32_447
  let c16_i32_448 : BitVec 32 := 16#32
  let c0_i32_449 : BitVec 32 := 0#32
  let v598 : BitVec 1 := Scalar.cmpi .eq c16_i32_448 c0_i32_449
  let c1_i32_450 : BitVec 32 := 1#32
  let v599 : BitVec 32 := Scalar.select v598 c1_i32_450 c16_i32_448
  let v600 : BitVec 32 := Scalar.remsi v597 v599
  let c0_i32_452 : BitVec 32 := 0#32
  let v602 : BitVec 1 := Scalar.cmpi .slt v600 c0_i32_452
  let c0_i32_453 : BitVec 32 := 0#32
  let v603 : BitVec 1 := Scalar.cmpi .slt v599 c0_i32_453
  let v604 : BitVec 1 := Scalar.xori v602 v603
  let c0_i32_451 : BitVec 32 := 0#32
  let v601 : BitVec 1 := Scalar.cmpi .ne v600 c0_i32_451
  let v605 : BitVec 1 := Scalar.andi v604 v601
  let v606 : BitVec 32 := Scalar.addi v600 v599
  let v607 : BitVec 32 := Scalar.select v605 v606 v600
  let c1_i32_457 : BitVec 32 := 1#32
  let v608 : BitVec 32 := Scalar.muli v607 c1_i32_457
  let v609 : BitVec 32 := Scalar.addi c0_i32_458 v608
  v609.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Common.lean ====
/-
The names the proof works with: the sixteen devices and their offsets, the kernel's buffers cut into
the pieces its transfers move, its semaphore cells, and the resource algebra.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, this kernel's rounds, the local transfers' counters -/

abbrev UB : Type := URounds (GSem nD τ sig) (Fin 15)
abbrev UU : Type := UR sig nD τ × (UB × Counters)

local notation "𝕄" => MT nD τ sig Unit (Elt F) ℕ UU ℕ

/-- The pipeline library's copy of the rounds algebra. -/
abbrev EP : Emb (UR sig nD τ) (MT nD τ sig Unit (Elt F) ℕ UU ℕ) := embL
/-- This kernel's copy of it. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters a local transfer is followed by. -/
abbrev EC : UEmb Counters (MT nD τ sig Unit (Elt F) ℕ UU ℕ) := countersEmb (U := UU)

/-! ## The devices: `peer c j` is `c + (j + 1)` around the mesh -/

set_option backward.proofsInPublic true in
def peer (c : Dev nD) (j : Fin 15) : Dev nD := ⟨(c.val + (j.val + 1)) % 16, Nat.mod_lt _ (by decide)⟩

/-- Offset `j + 1` forward then `15 - j` forward is once around. -/
theorem peer_peer_rev (c : Dev nD) (j : Fin 15) : peer (peer c j) j.rev = c := by revert c j; decide
theorem peer_rev_peer (c : Dev nD) (j : Fin 15) : peer (peer c j.rev) j = c := by revert c j; decide

/-- The rotation of the devices by `j + 1`. -/
def rot (j : Fin 15) : Dev nD ≃ Dev nD := ⟨fun c => peer c j, fun c => peer c j.rev, fun c => peer_peer_rev c j, fun c => peer_rev_peer c j⟩

/-- A device other than `c` is `peer c j` for one `j`. -/
theorem peer_inj (c : Dev nD) {i j : Fin 15} (h : peer c i = peer c j) : i = j := by revert c i j; decide

/-! ## The buffers and their pieces -/

theorem inbX (k : ℕ) (hk : k < 8) : ∀ a, (![256 * k, 0] : Fin 2 → Nat) a + S256x1024.size a ≤ S2048x1024.size a := by
  intro a; fin_cases a <;> simp [S256x1024, S2048x1024] <;> omega
theorem inbB (k : ℕ) (hk : k < 8) : ∀ a, (![k, 0, 0] : Fin 3 → Nat) a + S1x256x1024.size a ≤ S8x256x1024.size a := by
  intro a; fin_cases a <;> simp [S1x256x1024, S8x256x1024] <;> omega
theorem inbC (k : ℕ) (hk : k < 15) : ∀ a, (![k, 0, 0] : Fin 3 → Nat) a + S1x1x1024.size a ≤ S15x1x1024.size a := by
  intro a; fin_cases a <;> simp [S1x1x1024, S15x1x1024] <;> omega
theorem inb8 (k : ℕ) (hk : k < 8) : ∀ a, (![k] : Fin 1 → Nat) a + S1.size a ≤ S8.size a := by
  intro a; fin_cases a; simp [S1, S8]; omega
theorem inb15 (k : ℕ) (hk : k < 15) : ∀ a, (![k] : Fin 1 → Nat) a + S1.size a ≤ S15.size a := by
  intro a; fin_cases a; simp [S1, S15]; omega

abbrev xM : Memref sig .tc .hbm S2048x1024 .bf16 := Memref.whole main_arg0
abbrev outM : Memref sig .tc .vmem S1x1024 .f32 := Memref.whole cc0_stg0_0
abbrev parM : Memref sig .tc .vmem S1x1024 .f32 := Memref.whole cc0_scratch0
abbrev bufM : Memref sig .tc .vmem S8x256x1024 .bf16 := Memref.whole cc0_scratch1
abbrev comM : Memref sig .tc .vmem S15x1x1024 .f32 := Memref.whole cc0_scratch2

/-- Chunk `k` of the device's rows. -/
abbrev xRect (k : ℕ) (hk : k < 8) : Rect S2048x1024 := Rect.unit (s := S2048x1024) ![256 * k, 0] S256x1024.size (inbX k hk)
abbrev xSl (k : ℕ) (hk : k < 8) : Memref sig .tc .hbm S256x1024 .bf16 := xM.slice (xRect k hk) (fun _ => rfl)
/-- Slot `k` of the chunk buffer. -/
abbrev bRect (k : ℕ) (hk : k < 8) : Rect S8x256x1024 := Rect.unit (s := S8x256x1024) ![k, 0, 0] S1x256x1024.size (inbB k hk)
abbrev bSl (k : ℕ) (hk : k < 8) : Memref sig .tc .vmem S256x1024 .bf16 :=
  (bufM.slice (bRect k hk) (fun _ => rfl)).squeeze S256x1024 squeezes_S1x256x1024_S256x1024
/-- Slot `k` of the landing buffer. -/
abbrev cRect (k : ℕ) (hk : k < 15) : Rect S15x1x1024 := Rect.unit (s := S15x1x1024) ![k, 0, 0] S1x1x1024.size (inbC k hk)
abbrev cSl (k : ℕ) (hk : k < 15) : Memref sig .tc .vmem S1x1024 .f32 :=
  (comM.slice (cRect k hk) (fun _ => rfl)).squeeze S1x1024 squeezes_S1x1x1024_S1x1024

/-! ## The semaphores -/

abbrev barS : Sem sig := (SemArray.scalar (sig.barrier 0 rfl) : Sems sig S_).sem
abbrev copyS (k : ℕ) (hk : k < 8) : DmaSem sig :=
  ((cc0_scratch3.slice (Rect.unit (s := S8) ![k] S1.size (inb8 k hk))).squeeze S_ squeezes_S1_S_).sem
abbrev sendS (k : ℕ) (hk : k < 15) : DmaSem sig :=
  ((cc0_scratch4.slice (Rect.unit (s := S15) ![k] S1.size (inb15 k hk))).squeeze S_ squeezes_S1_S_).sem
abbrev recvS (k : ℕ) (hk : k < 15) : DmaSem sig :=
  ((cc0_scratch5.slice (Rect.unit (s := S15) ![k] S1.size (inb15 k hk))).squeeze S_ squeezes_S1_S_).sem

theorem copyS_val (j : Fin 8) : (copyS j.1 j.2).val = 1 + j.val := by revert j; decide
theorem sendS_val (j : Fin 15) : (sendS j.1 j.2).val = 9 + j.val := by revert j; decide
theorem recvS_val (j : Fin 15) : (recvS j.1 j.2).val = 24 + j.val := by revert j; decide

/-- The cells of a device that the rounds govern: its barrier, its send cells, its receive cells. -/
abbrev CIx : Type := Unit ⊕ (Fin 15 ⊕ Fin 15)

abbrev csem : CIx → SemLoc sig
  | .inl _ => .reg barS
  | .inr (.inl j) => .dma (sendS j.1 j.2)
  | .inr (.inr j) => .dma (recvS j.1 j.2)

abbrev barCell (c : Dev nD) : GSem nD τ sig := ((c : Thread nD τ), .reg barS)
abbrev sendCell (c : Dev nD) (j : Fin 15) : GSem nD τ sig := ((c : Thread nD τ), .dma (sendS j.1 j.2))
abbrev recvCell (c : Dev nD) (j : Fin 15) : GSem nD τ sig := ((c : Thread nD τ), .dma (recvS j.1 j.2))
abbrev copyCell (c : Dev nD) (j : Fin 8) : GSem nD τ sig := ((c : Thread nD τ), .dma (copyS j.1 j.2))
abbrev kcell (ck : Dev nD × CIx) : GSem nD τ sig := ((ck.1 : Thread nD τ), csem ck.2)

/-- Which of those cells a semaphore is. -/
def kindOf : SemLoc sig → Option CIx
  | .reg _ => some (.inl ())
  | .dma s =>
    if h : 9 ≤ s.val ∧ s.val < 24 then some (.inr (.inl ⟨s.val - 9, by omega⟩))
    else if h : 24 ≤ s.val ∧ s.val < 39 then some (.inr (.inr ⟨s.val - 24, by omega⟩))
    else none

theorem kindOf_csem (k : CIx) : kindOf (csem k) = some k := by
  rcases k with _ | j | j
  · rfl
  · have h := sendS_val j
    have hj := j.isLt
    show (if h : 9 ≤ (sendS j.1 j.2).val ∧ (sendS j.1 j.2).val < 24 then some (Sum.inr (Sum.inl _)) else _) = _
    rw [dif_pos (by omega)]
    congr 3
    exact Fin.ext (by simp only [h]; omega)
  · have h := recvS_val j
    have hj := j.isLt
    show (if h : 9 ≤ (recvS j.1 j.2).val ∧ (recvS j.1 j.2).val < 24 then _ else (if h : 24 ≤ (recvS j.1 j.2).val ∧ (recvS j.1 j.2).val < 39 then _ else none)) = _
    rw [dif_neg (by omega), dif_pos (by omega)]
    congr 3
    exact Fin.ext (by simp only [h]; omega)
theorem kindOf_copy (j : Fin 8) : kindOf (.dma (copyS j.1 j.2)) = none := by
  have h := copyS_val j
  have hj := j.isLt
  show (if h : 9 ≤ (copyS j.1 j.2).val ∧ (copyS j.1 j.2).val < 24 then _ else (if h : 24 ≤ (copyS j.1 j.2).val ∧ (copyS j.1 j.2).val < 39 then _ else none)) = _
  rw [dif_neg (by omega), dif_neg (by omega)]

theorem csem_inj {k k' : CIx} (h : csem k = csem k') : k = k' :=
  Option.some.inj ((kindOf_csem k).symm.trans ((congrArg kindOf h).trans (kindOf_csem k')))

theorem kcell_injective : Function.Injective (kcell : Dev nD × CIx → GSem nD τ sig) := by
  rintro ⟨c, k⟩ ⟨c', k'⟩ h
  have h1 : c = c' := congrArg (fun g : GSem nD τ sig => g.1.1) h
  subst h1
  exact congrArg (Prod.mk c) (csem_inj (congrArg Prod.snd h))

/-! ## The credits -/

/-- What one row's transfer counts on its cells; every slot of the landing buffer and the partial sum count the same. -/
@[irreducible] def N : ℕ := (parM : Memref sig .tc .vmem S1x1024 .f32).view.dmaCredit
theorem parM_credit : (parM : Memref sig .tc .vmem S1x1024 .f32).view.dmaCredit = N := by unfold N; rfl
theorem cSl_credit (k : ℕ) (hk : k < 15) : (cSl k hk).view.dmaCredit = N := by unfold N; rfl
theorem N_pos : 0 < N := by rw [← parM_credit]; exact View.dmaCredit_pos _ (by decide)
/-- What one chunk's copy counts. -/
@[irreducible] def NB : ℕ := (bSl 0 (by decide)).view.dmaCredit
theorem bSl_credit (k : ℕ) (hk : k < 8) : (bSl k hk).view.dmaCredit = NB := by unfold NB; rfl
theorem NB_pos : 0 < NB := by rw [← bSl_credit 0 (by decide)]; exact View.dmaCredit_pos _ (by decide)

/-! ## What the pieces cover -/

theorem bSl_set (k : ℕ) (hk : k < 8) : (bSl k hk).view.set = (bufM : Memref sig .tc .vmem S8x256x1024 .bf16).view.setOn (bRect k hk).set :=
  (View.set_reshape _ _).trans (View.set_slice _ _)
theorem cSl_set (k : ℕ) (hk : k < 15) : (cSl k hk).view.set = (comM : Memref sig .tc .vmem S15x1x1024 .f32).view.setOn (cRect k hk).set :=
  (View.set_reshape _ _).trans (View.set_slice _ _)

end Cert.MeanProof

end
-- ==== Proof.Schedule.lean ====
/-
What the buffers hold along the run, the rounds of the semaphore cells, what each device owes at
launch, and the levels that order its waits.
-/
module

public import proofs.«01_k».proof.Proof.Common

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Index sets: the steps still to come and the steps done -/

/-- The indices from `k` on; -/
abbrev ge (n k : ℕ) : Finset (Fin n) := Finset.univ.filter (fun j => k ≤ j.val)
/-- those before `k`. -/
abbrev lt (n k : ℕ) : Finset (Fin n) := Finset.univ.filter (fun j => j.val < k)

theorem ge_zero (n : ℕ) : ge n 0 = Finset.univ := by ext; simp
theorem ge_all (n : ℕ) : ge n n = ∅ := by ext j; simp
theorem lt_zero (n : ℕ) : lt n 0 = ∅ := by ext; simp
theorem lt_all (n : ℕ) : lt n n = Finset.univ := by ext j; simp
theorem ge_step {n k : ℕ} (hk : k < n) : ge n k = insert ⟨k, hk⟩ (ge n (k + 1)) := by
  ext j; simp only [Finset.mem_filter, Finset.mem_univ, true_and, Finset.mem_insert, Fin.ext_iff]; omega
theorem ge_notMem {n k : ℕ} (hk : k < n) : (⟨k, hk⟩ : Fin n) ∉ ge n (k + 1) := by simp
theorem lt_step {n k : ℕ} (hk : k < n) : lt n (k + 1) = insert ⟨k, hk⟩ (lt n k) := by
  ext j; simp only [Finset.mem_filter, Finset.mem_univ, true_and, Finset.mem_insert, Fin.ext_iff]; omega
theorem lt_notMem {n k : ℕ} (hk : k < n) : (⟨k, hk⟩ : Fin n) ∉ lt n k := by simp

/-- The next index's conjunct comes off those still to come; -/
theorem bigSep_ge {n k : ℕ} (hk : k < n) (Φ : Fin n → sProp 𝕄) :
    bigSep (ge n k) Φ = iprop(Φ ⟨k, hk⟩ ∗ bigSep (ge n (k + 1)) Φ) := by
  rw [ge_step hk]; exact bigSep_insert (ge_notMem hk)
/-- and joins those done. -/
theorem bigSep_lt {n k : ℕ} (hk : k < n) (Φ : Fin n → sProp 𝕄) :
    bigSep (lt n (k + 1)) Φ = iprop(Φ ⟨k, hk⟩ ∗ bigSep (lt n k) Φ) := by
  rw [lt_step hk]; exact bigSep_insert (lt_notMem hk)

/-! ## Contents -/

variable (m : (ℓ : Loc nD τ sig) → Buf (Elt F) ℓ)

/-- Device `c`'s rows. -/
def xC (c : Dev nD) : Buf (Elt F) ((c : Thread nD τ).loc main_arg0) := m ((c : Thread nD τ).loc main_arg0)

/-- The chunk buffer once chunk `k` is copied into its slot. -/
def bufC (c : Dev nD) (k : Fin 8) : Buf (Elt F) ((c : Thread nD τ).loc cc0_scratch1) :=
  (bSl k.1 k.2).view.write (Elt F) (m ((c : Thread nD τ).loc cc0_scratch1)) ((xSl k.1 k.2).view.read (Elt F) (xC m c)) Finset.univ
/-- Chunk `k` as the kernel loads it. -/
def chunkV (c : Dev nD) (k : Fin 8) : Vec F S1x256x1024 .bf16 :=
  (bufM : Memref sig .tc .vmem S8x256x1024 .bf16).view.readAt (Elt F) (bRect k.1 k.2).toLoadRect (bufC m c k)

def acc2 (c : Dev nD) : FVec F S1x1024 .f32 := k0_pay2 k0_pay1 (chunkV m c 0) (chunkV m c 1) (chunkV m c 2)
def acc3 (c : Dev nD) : FVec F S1x1024 .f32 := k0_pay3 (acc2 m c) (chunkV m c 3) (chunkV m c 4) (chunkV m c 5)
/-- Device `c`'s partial sum. -/
def parC (c : Dev nD) : FVec F S1x1024 .f32 := k0_pay4 (acc3 m c) (chunkV m c 6) (chunkV m c 7)

/-- The landing buffer of device `c` once the row of the device whose `j`-th send it is has landed in slot `j`. -/
def comC (c : Dev nD) (j : Fin 15) : Buf (Elt F) ((c : Thread nD τ).loc cc0_scratch2) :=
  (cSl j.1 j.2).view.write (Elt F) (m ((c : Thread nD τ).loc cc0_scratch2))
    ((parM : Memref sig .tc .vmem S1x1024 .f32).view.read (Elt F) (parC m (peer c j.rev))) Finset.univ
/-- That row as the kernel loads it. -/
def landV (c : Dev nD) (j : Fin 15) : Vec F S1x1x1024 .f32 :=
  (comM : Memref sig .tc .vmem S15x1x1024 .f32).view.readAt (Elt F) (cRect j.1 j.2).toLoadRect (comC m c j)

abbrev tot5 (c : Dev nD) : FVec F S1x1024 .f32 := k0_pay5 (parC m c) (landV m c ⟨0, by decide⟩)
def tot6 (c : Dev nD) : FVec F S1x1024 .f32 := k0_pay6 (tot5 m c) (landV m c 1) (landV m c 2) (landV m c 3)
def tot7 (c : Dev nD) : FVec F S1x1024 .f32 := k0_pay7 (tot6 m c) (landV m c 4) (landV m c 5) (landV m c 6)
def tot8 (c : Dev nD) : FVec F S1x1024 .f32 := k0_pay8 (tot7 m c) (landV m c 7) (landV m c 8) (landV m c 9)
def tot9 (c : Dev nD) : FVec F S1x1024 .f32 := k0_pay9 (tot8 m c) (landV m c 10) (landV m c 11) (landV m c 12)
/-- The kernel's result on device `c`. -/
def outC (c : Dev nD) : FVec F S1x1024 .f32 := k0_pay10 (tot9 m c) (landV m c 13) (landV m c 14)

/-! ## The pieces of the buffers, as assertions -/

/-- Chunk `k` of device `c`'s rows; -/
def xPts (c : Dev nD) (k : Fin 8) : sProp 𝕄 :=
  (xSl k.1 k.2).view.loc (c : Thread nD τ) ↦[(xSl k.1 k.2).view.set]{fullShare} xC m c
/-- slot `k` of its chunk buffer; -/
def bPts (c : Dev nD) (k : Fin 8) (f : Buf (Elt F) ((c : Thread nD τ).loc cc0_scratch1)) : sProp 𝕄 :=
  (bSl k.1 k.2).view.loc (c : Thread nD τ) ↦[(bSl k.1 k.2).view.set]{fullShare} f
/-- slot `j` of its landing buffer; -/
def cPts (c : Dev nD) (j : Fin 15) (f : Buf (Elt F) ((c : Thread nD τ).loc cc0_scratch2)) : sProp 𝕄 :=
  (cSl j.1 j.2).view.loc (c : Thread nD τ) ↦[(cSl j.1 j.2).view.set]{fullShare} f
/-- its partial sum's buffer, at a share. -/
def pPts (c : Dev nD) (q : PosShare TreeShare) (f : Buf (Elt F) ((c : Thread nD τ).loc cc0_scratch0)) : sProp 𝕄 :=
  (parM : Memref sig .tc .vmem S1x1024 .f32).view.loc (c : Thread nD τ) ↦[(parM : Memref sig .tc .vmem S1x1024 .f32).view.set]{q} f

omit [FloatOps F] in
instance cPts_storable (c : Dev nD) (j) (f) : BI.Storable (upEmb : UEmb _ 𝕄) (cPts (F := F) c j f) := by unfold cPts; infer_instance
omit [FloatOps F] in
instance pPts_storable (c : Dev nD) (q) (f) : BI.Storable (upEmb : UEmb _ 𝕄) (pPts (F := F) c q f) := by unfold pPts; infer_instance

/-- A transfer into a slot leaves there what was sent, whatever the slot held. -/
theorem write_any {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨x, -, rfl⟩ := Finset.mem_map.mp hi
  rw [View.write_emb_of_mem (h := Finset.mem_univ x), View.write_emb_of_mem (h := Finset.mem_univ x)]

/-! ## The schedule -/

/-- What step `i` of the barrier hands device `c`: slot `i` of the landing buffer its `i`-th send goes to. -/
def barPay (c : Dev nD) (i : Fin 15) : sProp 𝕄 := iprop(∃ f, cPts (peer c i) i f)
/-- What the `j`-th send's completion hands back: the share of the partial sum it read. -/
def sendPay (c : Dev nD) (j : Fin 15) : sProp 𝕄 := pPts c (Transfers.shareTok fullShare 15 j) (parC m c)
/-- What a landing hands: the slot, holding the sender's partial sum. -/
def recvPay (c : Dev nD) (j : Fin 15) : sProp 𝕄 := cPts c j (comC m c j)

/-- One round, round 0: a barrier cell has a duty of one unit for each of the fifteen other devices; a send or a
    receive cell has one duty, a row's credit. -/
def sched : Rounds.Schedule (GSem nD τ sig) (Fin 15) 𝕄 where
  duties g r := if r = 0 ∧ g.1.2 = .tc then
      (match kindOf g.2 with | some (.inl _) => Finset.univ | some (.inr _) => {0} | none => ∅) else ∅
  unitless _ := False
  amount g _ _ := match kindOf g.2 with | some (.inl _) => 1 | _ => N
  payload g _ d := match kindOf g.2 with
    | some (.inl _) => barPay g.1.1 d
    | some (.inr (.inl j)) => sendPay m g.1.1 j
    | some (.inr (.inr j)) => recvPay m g.1.1 j
    | none => iprop(emp)
  amount_pos g _ _ _ := by
    split
    · exact Nat.one_pos
    · exact N_pos

instance sched_payload_storable (g : GSem nD τ sig) (r : ℕ) (d : Fin 15) :
    BI.Storable (upEmb : UEmb _ 𝕄) ((sched (F := F) m).payload g r d) := by
  show BI.Storable upEmb (match kindOf g.2 with
    | some (.inl _) => barPay g.1.1 d
    | some (.inr (.inl j)) => sendPay m g.1.1 j
    | some (.inr (.inr j)) => recvPay m g.1.1 j
    | none => iprop(emp))
  unfold barPay recvPay sendPay
  split <;> infer_instance

section Sched
variable (c : Dev nD) (j : Fin 15)

theorem kind_bar : kindOf (barCell c).2 = some (.inl ()) := kindOf_csem (.inl ())
theorem kind_send : kindOf (sendCell c j).2 = some (.inr (.inl j)) := kindOf_csem (.inr (.inl j))
theorem kind_recv : kindOf (recvCell c j).2 = some (.inr (.inr j)) := kindOf_csem (.inr (.inr j))

theorem duties_of (g : GSem nD τ sig) (h : g.1.2 = .tc) : (sched (F := F) m).duties g 0 =
    (match kindOf g.2 with | some (.inl _) => Finset.univ | some (.inr _) => {0} | none => ∅) := if_pos ⟨rfl, h⟩

theorem duties_bar : (sched (F := F) m).duties (barCell c) 0 = Finset.univ := by rw [duties_of m _ rfl, kind_bar c]
theorem duties_send : (sched (F := F) m).duties (sendCell c j) 0 = {0} := by rw [duties_of m _ rfl, kind_send c j]
theorem duties_recv : (sched (F := F) m).duties (recvCell c j) 0 = {0} := by rw [duties_of m _ rfl, kind_recv c j]
theorem duties_later (g : GSem nD τ sig) : ∀ r, 1 ≤ r → (sched (F := F) m).duties g r = ∅ :=
  fun r hr => if_neg fun h => by omega

theorem amount_bar (d : Fin 15) : (sched (F := F) m).amount (barCell c) 0 d = 1 := by
  show (match kindOf (barCell c).2 with | some (.inl _) => 1 | _ => N) = 1; rw [kind_bar c]
theorem amount_send (d : Fin 15) : (sched (F := F) m).amount (sendCell c j) 0 d = N := by
  show (match kindOf (sendCell c j).2 with | some (.inl _) => 1 | _ => N) = N; rw [kind_send c j]
theorem amount_recv (d : Fin 15) : (sched (F := F) m).amount (recvCell c j) 0 d = N := by
  show (match kindOf (recvCell c j).2 with | some (.inl _) => 1 | _ => N) = N; rw [kind_recv c j]

theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (d : Fin 15) : (sched (F := F) m).payload (barCell c) 0 d = barPay c d := by
  unfold sched; dsimp only; rw [kind_bar c]
theorem payload_send (d : Fin 15) : (sched (F := F) m).payload (sendCell c j) 0 d = sendPay m c j := by
  unfold sched; dsimp only; rw [kind_send c j]
theorem payload_recv (d : Fin 15) : (sched (F := F) m).payload (recvCell c j) 0 d = recvPay m c j := by
  unfold sched; dsimp only; rw [kind_recv c j]

/-- A whole round's payloads, cell by cell. -/
theorem rest_bar : bigSep ((sched (F := F) m).duties (barCell c) 0 \ ∅) (fun d => (sched (F := F) m).payload (barCell c) 0 d)
    = bigSep Finset.univ (fun d => barPay c d) := by
  rw [Finset.sdiff_empty, duties_bar]; exact bigSep_congr fun d _ => payload_bar m c d
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Sched

/-! ## What each device owes; the levels -/

/-- The barrier units device `c` owes from step `k` on; -/
def oBar (c : Dev nD) (k : ℕ) : CellTallies nD τ sig Unit := ∑ j ∈ ge 15 k, tallyAt (barCell (peer c j)) () 1
/-- the rows it owes from send `k` on; -/
def oRecv (c : Dev nD) (k : ℕ) : CellTallies nD τ sig Unit := ∑ j ∈ ge 15 k, tallyAt (recvCell (peer c j) j) () N
/-- all it owes at launch. -/
def O₀ (c : Dev nD) : CellTallies nD τ sig Unit := oRecv c 0 + oBar c 0

theorem oBar_step (c : Dev nD) {k : ℕ} (hk : k < 15) : oBar c k = oBar c (k + 1) + tallyAt (barCell (peer c ⟨k, hk⟩)) () 1 := by
  unfold oBar; rw [ge_step hk, Finset.sum_insert (ge_notMem hk), add_comm]
theorem oRecv_step (c : Dev nD) {k : ℕ} (hk : k < 15) : oRecv c k = oRecv c (k + 1) + tallyAt (recvCell (peer c ⟨k, hk⟩) ⟨k, hk⟩) () N := by
  unfold oRecv; rw [ge_step hk, Finset.sum_insert (ge_notMem hk), add_comm]
theorem oBar_end (c : Dev nD) : oBar c 15 = 0 := by unfold oBar; rw [ge_all, Finset.sum_empty]
theorem oRecv_end (c : Dev nD) : oRecv c 15 = 0 := by unfold oRecv; rw [ge_all, Finset.sum_empty]

theorem sum_tally_pos {T : Finset (Fin 15)} {cell : Fin 15 → GSem nD τ sig} {n : ℕ} {g : GSem nD τ sig} {u : Unit}
    (h : 0 < (∑ j ∈ T, tallyAt (cell j) () n : CellTallies nD τ sig Unit) g u) : ∃ j, g = cell j := by
  by_contra hn
  rw [not_exists] at hn
  rw [Finset.sum_apply, Finsupp.finset_sum_apply, Finset.sum_eq_zero] at h
  · exact Nat.lt_irrefl 0 h
  · intro j _; rw [tallyAt_apply, if_neg (fun h' => hn j h'.1)]

theorem owed_pos {c : Dev nD} {a b : ℕ} {g : GSem nD τ sig} {u : Unit} (h : 0 < (oRecv c a + oBar c b) g u) :
    (∃ j, g = recvCell (peer c j) j) ∨ (∃ j, g = barCell (peer c j)) := by
  rw [Pi.add_apply, Finsupp.add_apply] at h
  rcases Nat.add_pos_iff_pos_or_pos.mp h with h | h
  · exact .inl (sum_tally_pos h)
  · exact .inr (sum_tally_pos h)

def L (g : GSem nD τ sig) : Finset Unit := if g.1.2 = .tc then {()} else ∅
/-- Barrier cells at 1, receive cells at 2, every other (staging, chunk copies, sends) at 0. -/
def lv (g : GSem nD τ sig) (_ : Unit) : ℕ :=
  match kindOf g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kind_bar]
theorem lv_recv (c : Dev nD) (j : Fin 15) (u : Unit) : lv (recvCell c j) u = 2 := by unfold lv; rw [kind_recv]
theorem lv_other (c : Dev nD) (sm : SemLoc sig) (h : kindOf sm = none) (u : Unit) : lv ((c : Thread nD τ), sm) u = 0 := by
  unfold lv; rw [h]

/-- A semaphore outside the rounds may be waited on while barrier units and rows are owed. -/
theorem mayWait_low (c : Dev nD) (sm : SemLoc sig) (hsm : kindOf sm = none) (a b : ℕ) :
    (levAts L lv : sProp 𝕄) ⊢ MayWait (c : Thread nD τ) sm () (oRecv c a + oBar c b) :=
  MayOwe.of_cut (L := L) (lev := lv) 0 (fun p hp => by rw [Finset.mem_singleton.mp hp, L_tc]; exact Finset.mem_singleton_self _)
    (fun g u hg => by rcases owed_pos hg with ⟨j, rfl⟩ | ⟨j, rfl⟩ <;> exact Finset.mem_singleton_self _)
    (fun p hp => by rw [Finset.mem_singleton.mp hp, lv_other c sm hsm])
    (fun g u hg => by
      rcases owed_pos hg with ⟨j, rfl⟩ | ⟨j, rfl⟩
      · rw [lv_recv]; decide
      · rw [lv_bar]; decide)

/-- The barrier may be waited on while rows only are owed. -/
theorem mayWait_bar (c : Dev nD) (a : ℕ) :
    (levAts L lv : sProp 𝕄) ⊢ MayWait (c : Thread nD τ) (.reg barS) () (oRecv c a) :=
  MayOwe.of_cut (L := L) (lev := lv) 1 (fun p hp => by rw [Finset.mem_singleton.mp hp, L_tc]; exact Finset.mem_singleton_self _)
    (fun g u hg => by obtain ⟨j, rfl⟩ := sum_tally_pos hg; exact Finset.mem_singleton_self _)
    (fun p hp => by rw [Finset.mem_singleton.mp hp]; exact (lv_bar c ()).le)
    (fun g u hg => by obtain ⟨j, rfl⟩ := sum_tally_pos hg; rw [lv_recv]; decide)

end Cert.MeanProof

end
-- ==== Proof.Steps.lean ====
/-
One lemma for each kind of step the kernel takes, at any index: a barrier signal, a chunk copy's start, its
wait, the load of a chunk, a row's send, the wait for a row, its load, the wait for a send. Each says how the
step moves the state of its phase (what is still to come, what is done) from one index to the next.
-/
module

public import proofs.«01_k».proof.Proof.Schedule

@[expose] public section

set_option maxRecDepth 8000

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- Device `c` runs `p` and ends in `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows throughout -/

/-- Every cell's invariant, under the names `K` the launch gave them, and that every cell has reached its round 0. -/
def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)
instance records_persistent (K : Dev nD × CIx → ℕ) : BI.Persistent (records m K) := by unfold records; infer_instance

theorem rec_inv (K : Dev nD × CIx → ℕ) (ck : Dev nD × CIx) : records m K ⊢ cellInv ER (sched m) (K ck) (kcell ck) := by
  unfold records; exact sep_elim_left.trans (bigSep_elim (Finset.mem_univ ck))
theorem rec_reached (K : Dev nD × CIx → ℕ) (ck : Dev nD × CIx) : records m K ⊢ reached ER (kcell ck) 0 := by
  unfold records; exact sep_elim_right.trans (bigSep_elim (Finset.mem_univ ck))

/-- The records and the levels of the semaphores. -/
def Ctx (K : Dev nD × CIx → ℕ) : sProp 𝕄 := iprop(records m K ∗ levAts L lv)
instance Ctx_persistent (K : Dev nD × CIx → ℕ) : BI.Persistent (Ctx m K) := by unfold Ctx; infer_instance
theorem ctx_inv (K : Dev nD × CIx → ℕ) (ck : Dev nD × CIx) : Ctx m K ⊢ cellInv ER (sched m) (K ck) (kcell ck) := by
  unfold Ctx; iintro ⟨H, -⟩; iapply (rec_inv m K ck); iexact H
theorem ctx_reached (K : Dev nD × CIx → ℕ) (ck : Dev nD × CIx) : Ctx m K ⊢ reached ER (kcell ck) 0 := by
  unfold Ctx; iintro ⟨H, -⟩; iapply (rec_reached m K ck); iexact H
theorem ctx_lev (K : Dev nD × CIx → ℕ) : Ctx m K ⊢ (levAts L lv : sProp 𝕄) := by
  unfold Ctx; iintro ⟨-, H⟩; iexact H

/-- What the device owes, after whatever waits. -/
def Ow (c : Dev nD) (O : CellTallies nD τ sig Unit) : sProp 𝕄 := iprop(∃ W, owes (c : Thread nD τ) O W)

/-! ## The barrier signals -/

/-- Before signal `j`: the duty it pays and the slot it hands over. -/
def sigItem (c : Dev nD) (j : Fin 15) : sProp 𝕄 := iprop(dutyTok ER (barCell (peer c j)) 0 j.rev ∗ ∃ f, cPts c j.rev f)
/-- Signals `k` on are still to come. -/
def SA (c : Dev nD) (k : ℕ) : sProp 𝕄 := iprop(Ow c (oRecv c 0 + oBar c k) ∗ bigSep (ge 15 k) (sigItem c))

theorem step_signal (K : Dev nD × CIx → ℕ) (c : Dev nD) (k k' : ℕ) (hk : k < 15) (hk' : k' = k + 1) (n : Dev nD) (hn : n = peer c ⟨k, hk⟩)
    {α : Type} {Q : α → sProp 𝕄} {q : PUnit → Prog (TpuEff nD τ sig (Elt F) Λ₀ .tc) α} :
    Ctx m K ⊢ iprop(SA c k -∗ (SA c k' -∗ Run c (q ⟨⟩) Q)
      -∗ Run c (.op (.semSignal (n : Thread nD τ) barS (1#32 : BitVec 32).toInt) q) Q) := by
  subst hn hk'
  unfold SA Ow sigItem
  rw [bigSep_ge hk, oBar_step c hk, ← add_assoc]
  iintro #HC ⟨⟨%W, HO⟩, ⟨Htok, Hslot⟩, Hrest⟩ Hk
  iapply (Rounds.wp_signal 𝒱₀ ER (sched m) (c : Thread nD τ) none (dst := (peer c ⟨k, hk⟩ : Thread nD τ)) (κ := K (peer c ⟨k, hk⟩, .inl ()))
      (d := (⟨k, hk⟩ : Fin 15).rev) (by rw [duties_bar]; exact Finset.mem_univ _)
      ((amount_bar m (peer c ⟨k, hk⟩) _).trans (by decide)) () (oRecv c 0 + oBar c (k + 1)) rfl) $$ [HO Htok Hslot]
  · isplitr; · iapply (ctx_inv m K (peer c ⟨k, hk⟩, .inl ())); iexact HC
    isplitl [HO]; · iexact HO
    isplitl [Htok]; · iexact Htok
    isplitl [Hslot]
    · rw [payload_bar]; unfold barPay; rw [peer_peer_rev]; iexact Hslot
    iapply (ctx_reached m K (peer c ⟨k, hk⟩, .inl ())); iexact HC
  iintro HO
  iapply Hk
  isplitl [HO]; · iexists W; iexact HO
  iexact Hrest

/-! ## The chunk copies -/

/-- A chunk's copy in flight; -/
def flight (c : Dev nD) (i : Fin 8) : sProp 𝕄 :=
  Transfers.Flight EC (c : Thread nD τ) (.dma (copyS i.1 i.2)) () NB iprop(bPts c i (bufC m c i) ∗ xPts m c i)
/-- before its start: the chunk, its slot, the counter at zero; -/
def copyItem (c : Dev nD) (i : Fin 8) : sProp 𝕄 := iprop(xPts m c i ∗ (∃ f, bPts c i f) ∗ semVal (copyCell c i) 0)
/-- after its wait: the same, the slot filled. -/
def doneItem (c : Dev nD) (i : Fin 8) : sProp 𝕄 := iprop(bPts c i (bufC m c i) ∗ xPts m c i ∗ semVal (copyCell c i) 0)
/-- Copies `k` on are not started. -/
def SB (c : Dev nD) (k : ℕ) : sProp 𝕄 := iprop(bigSep (ge 8 k) (copyItem m c) ∗ bigSep (lt 8 k) (flight m c))
/-- Copies `k` on are in flight. -/
def SC (c : Dev nD) (k : ℕ) : sProp 𝕄 :=
  iprop(Ow c (oRecv c 0 + oBar c 15) ∗ bigSep (ge 8 k) (flight m c) ∗ bigSep (lt 8 k) (doneItem m c))

theorem step_copy (c : Dev nD) (k k' : ℕ) (hk : k < 8) (hk' : k' = k + 1)
    {hsrc : (xSl k hk).view.WordExact} {hdst : (bSl k hk).view.WordExact}
    {hsem : (DmaTarget.here (bSl k hk) : DmaTarget nD τ sig .tc .vmem S256x1024 .bf16).Typed .hbm (.dma (copyS k hk))}
    {α : Type} {Q : α → sProp 𝕄} {q : PUnit → Prog (TpuEff nD τ sig (Elt F) Λ₀ .tc) α} :
    SB m c k ⊢ iprop((SB m c k' -∗ Run c (q ⟨⟩) Q)
      -∗ Run c (.op (.enqueueDma (xSl k hk) (.here (bSl k hk)) (.dma (copyS k hk)) hsrc hdst hsem) q) Q) := by
  subst hk'
  unfold SB
  rw [bigSep_ge hk, bigSep_lt hk]
  unfold copyItem
  iintro ⟨⟨⟨Hx, ⟨%f, Hb⟩, Hv⟩, Hrest⟩, Hfl⟩ Hk
  unfold xPts bPts
  iapply (Transfers.wp_dmaLocal EC 𝒱₀ (c : Thread nD τ) none (dst := bSl k hk) (sm := .dma (copyS k hk)) () NB (bSl_credit k hk) NB_pos (Finset.Subset.refl _)) $$ [Hx Hb Hv]
  · isplitl [Hx]; · iexact Hx
    isplitl [Hb]; · iexact Hb
    iexact Hv
  iintro Hf
  iapply Hk
  isplitl [Hrest]; · iexact Hrest
  isplitl [Hf]
  · unfold flight bPts xPts bufC
    have e := pointsTo_congr (Ix := Unit) (Name := ℕ) (U := UU) (Lvl := ℕ) (ℓ := (bSl k hk).view.loc (c : Thread nD τ)) (q := fullShare)
      (write_any (bSl k hk).view (m ((c : Thread nD τ).loc cc0_scratch1)) f ((xSl k hk).view.read (Elt F) (xC m c)))
    rw [e]; iexact Hf
  iexact Hfl

theorem step_copied (K : Dev nD × CIx → ℕ) (c : Dev nD) (k k' : ℕ) (hk : k < 8) (hk' : k' = k + 1)
    {hsrc : (xSl k hk).view.WordExact} {hdst : (bSl k hk).view.WordExact}
    {α : Type} {Q : α → sProp 𝕄} {q : PUnit → Prog (TpuEff nD τ sig (Elt F) Λ₀ .tc) α} :
    Ctx m K ⊢ iprop(SC m c k -∗ (SC m c k' -∗ Run c (q ⟨⟩) Q)
      -∗ Run c (.op (.waitDma2 (copyS k hk) (xSl k hk) (bSl k hk) hsrc hdst) q) Q) := by
  subst hk'
  unfold SC Ow
  rw [bigSep_ge hk, bigSep_lt hk]
  iintro #HC ⟨⟨%W, HO⟩, ⟨Hf, Hrest⟩, Hdone⟩ Hk
  unfold flight
  iapply (Transfers.wp_waitLocalO EC 𝒱₀ (c : Thread nD τ) none () (bSl_credit k hk)) $$ [Hf HO]
  · isplitl [Hf]; · iexact Hf
    isplitl [HO]; · iexact HO
    iapply ((ctx_lev m K).trans (mayWait_low c _ (kindOf_copy ⟨k, hk⟩) 0 15)); iexact HC
  iintro ⟨⟨Hb, Hx⟩, Hv, HO⟩
  iapply Hk
  isplitl [HO]; · iexists _; iexact HO
  isplitl [Hrest]; · iexact Hrest
  isplitl [Hb Hx Hv]
  · unfold doneItem
    isplitl [Hb]; · iexact Hb
    isplitl [Hx]; · iexact Hx
    iexact Hv
  iexact Hdone

theorem step_chunk (c : Dev nD) (k k' : ℕ) (hk : k < 8) (hk' : k' = k + 1)
    {hl : (bufM : Memref sig .tc .vmem S8x256x1024 .bf16).view.LoadsAt (bRect k hk).toLoadRect}
    {α : Type} {Q : α → sProp 𝕄} {q : Vec F S1x256x1024 .bf16 → Prog (TpuEff nD τ sig (Elt F) Λ₀ .tc) α} :
    SC m c k' ⊢ iprop((SC m c k' -∗ Run c (q (chunkV m c ⟨k, hk⟩)) Q)
      -∗ Run c (.op (.load bufM (bRect k hk).toLoadRect hl) q) Q) := by
  subst hk'
  unfold SC
  rw [bigSep_lt hk]
  unfold doneItem bPts
  iintro ⟨HO, Hrest, ⟨Hb, Hx, Hv⟩, Hdone⟩ Hk
  iapply (wp_load 𝒱₀ (c : Thread nD τ) none Set.univ (m := bufM) (S := (bSl k hk).view.set)
    (bSl_set k hk).superset) $$ Hb
  iintro Hb
  iapply Hk
  isplitl [HO]; · iexact HO
  isplitl [Hrest]; · iexact Hrest
  isplitl [Hb Hx Hv]
  · isplitl [Hb]; · iexact Hb
    isplitl [Hx]; · iexact Hx
    iexact Hv
  iexact Hdone

/-! ## The partial sum, the barrier's wait -/

theorem hz2 : (![0, 0] : Fin 2 → Nat) = fun _ => 0 := funext fun a => by fin_cases a <;> rfl

theorem step_barrier (K : Dev nD × CIx → ℕ) (c : Dev nD)
    {α : Type} {Q : α → sProp 𝕄} {q : PUnit → Prog (TpuEff nD τ sig (Elt F) Λ₀ .tc) α} :
    Ctx m K ⊢ iprop(Ow c (oRecv c 0) -∗ cred (tallyAt (barCell c) () 15) -∗ atPos ER (barCell c) 0 ∅ 0 -∗ (iprop(Ow c (oRecv c 0) ∗ atPos ER (barCell c) 1 ∅ 0 ∗ bigSep Finset.univ (fun d => barPay c d)) -∗ Run c (q ⟨⟩) Q)
      -∗ Run c (.op (.semWait barS (15#32 : BitVec 32).toInt) q) Q) := by
  unfold Ow
  iintro #HC ⟨%W, HO⟩ Hcr Hat Hk
  iapply (Rounds.wp_wait_rest_token 𝒱₀ ER (sched m) (c : Thread nD τ) none (κ := K (c, .inl ()))
      (wpE_semWait_eq 𝒱₀ (c : Thread nD τ) none Set.univ) (Set.mem_univ _) () (O := oRecv c 0) (W := W) (R := 0) (m := 0) (T := ∅)
      (by rw [expect_bar]; decide)) $$ [Hcr HO Hat]
  · isplitr; · iapply (ctx_inv m K (c, .inl ())); iexact HC
    isplitl [Hcr]; · iexact Hcr
    isplitl [HO]; · iexact HO
    isplitr; · iapply ((ctx_lev m K).trans (mayWait_bar c 0)); iexact HC
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## The rows sent -/

/-- Before send `j`: the duties it pays, the share of the partial sum it reads, the slot it writes. -/
def sendItem (c : Dev nD) (j : Fin 15) : sProp 𝕄 :=
  iprop(dutyTok ER (sendCell c j) 0 0 ∗ dutyTok ER (recvCell (peer c j) j) 0 0 ∗ sendPay m c j ∗ barPay c j)
/-- After it: the credit to wait for its completion with. -/
def sentItem (c : Dev nD) (j : Fin 15) : sProp 𝕄 := cred (tallyAt (sendCell c j) () N)
/-- Sends `k` on are still to come. -/
def SE (c : Dev nD) (k : ℕ) : sProp 𝕄 :=
  iprop(Ow c (oRecv c k) ∗ bigSep (ge 15 k) (sendItem m c) ∗ bigSep (lt 15 k) (sentItem c))

theorem step_send (K : Dev nD × CIx → ℕ) (c : Dev nD) (k k' : ℕ) (hk : k < 15) (hk' : k' = k + 1) (n : Dev nD) (hn : n = peer c ⟨k, hk⟩)
    {hsc : (cSl k hk).view.ref.isScScratch = false}
    {hsrc : (parM : Memref sig .tc .vmem S1x1024 .f32).view.WordExact} {hdst : (cSl k hk).view.WordExact}
    {hsem : DmaTarget.Typed .vmem (.dma (recvS k hk)) (.remote (Dev.tc n : Thread nD τ) (cSl k hk) (.dma (sendS k hk)) hsc)}
    {α : Type} {Q : α → sProp 𝕄} {q : PUnit → Prog (TpuEff nD τ sig (Elt F) Λ₀ .tc) α} :
    Ctx m K ⊢ iprop(SE m c k -∗ (SE m c k' -∗ Run c (q ⟨⟩) Q)
      -∗ Run c (.op (.enqueueDma parM (.remote (Dev.tc n : Thread nD τ) (cSl k hk) (.dma (sendS k hk)) hsc) (.dma (recvS k hk)) hsrc hdst hsem) q) Q) := by
  subst hn hk'
  unfold SE Ow
  rw [bigSep_ge hk, bigSep_lt hk, oRecv_step c hk]
  unfold sendItem barPay
  iintro #HC ⟨⟨%W, HO⟩, ⟨⟨Hts, Htr, Hp, ⟨%f, Hs⟩⟩, Hrest⟩, Hsent⟩ Hk
  unfold sendPay pPts cPts
  iapply (Rounds.wp_send_pointsTo 𝒱₀ ER (sched m) (c : Thread nD τ) none (κ₁ := K (c, .inr (.inl ⟨k, hk⟩))) (κ₂ := K (peer c ⟨k, hk⟩, .inr (.inr ⟨k, hk⟩)))
    (r₁ := 0) (r₂ := 0) (d₁ := 0) (d₂ := 0) (c' := (peer c ⟨k, hk⟩ : Thread nD τ)) (dst := cSl k hk) (sem := .dma (recvS k hk)) (fd := f)
    (by rw [duties_send m c ⟨k, hk⟩]; exact Finset.mem_singleton_self _) (by rw [duties_recv m (peer c ⟨k, hk⟩) ⟨k, hk⟩]; exact Finset.mem_singleton_self _)
    () () N (cSl_credit k hk) (amount_send m c ⟨k, hk⟩ 0) (amount_recv m (peer c ⟨k, hk⟩) ⟨k, hk⟩ 0) (oRecv c (k + 1)) rfl (W := W)
    (by rw [payload_send m c ⟨k, hk⟩]; exact BI.Entails.refl _)
    (by
      rw [payload_recv m (peer c ⟨k, hk⟩) ⟨k, hk⟩]; unfold recvPay cPts comC; rw [peer_peer_rev]
      exact Entails.of_eq (pointsTo_congr (write_any (cSl k hk).view _ _ _)))) $$ [Hts Htr Hp Hs HO]
  · isplitr; · iapply (ctx_inv m K (c, .inr (.inl ⟨k, hk⟩))); iexact HC
    isplitr; · iapply (ctx_inv m K (peer c ⟨k, hk⟩, .inr (.inr ⟨k, hk⟩))); iexact HC
    isplitl [Hp]; · iexact Hp
    isplitl [Hs]; · iexact Hs
    isplitl [HO]; · iexact HO
    isplitl [Hts]; · iexact Hts
    isplitr; · iapply (ctx_reached m K (c, .inr (.inl ⟨k, hk⟩))); iexact HC
    isplitl [Htr]; · iexact Htr
    iapply (ctx_reached m K (peer c ⟨k, hk⟩, .inr (.inr ⟨k, hk⟩))); iexact HC
  iintro ⟨Hcr, HO⟩
  iapply Hk
  isplitl [HO]; · iexists W; iexact HO
  isplitl [Hrest]; · iexact Hrest
  isplitl [Hcr]; · unfold sentItem; iexact Hcr
  iexact Hsent

/-! ## The rows received -/

/-- Before the wait for row `j`: the credit, and the place in the cell's rounds; -/
def dueItem (c : Dev nD) (j : Fin 15) : sProp 𝕄 := iprop(cred (tallyAt (recvCell c j) () N) ∗ atPos ER (recvCell c j) 0 ∅ 0)
/-- after it: the slot holding the row. -/
def landItem (c : Dev nD) (j : Fin 15) : sProp 𝕄 := iprop(cPts c j (comC m c j) ∗ atPos ER (recvCell c j) 1 ∅ 0)
/-- Rows `k` on are still awaited. -/
def SF (c : Dev nD) (k : ℕ) : sProp 𝕄 := iprop(Ow c 0 ∗ bigSep (ge 15 k) (dueItem c) ∗ bigSep (lt 15 k) (landItem m c))

theorem step_recv (K : Dev nD × CIx → ℕ) (c : Dev nD) (k k' : ℕ) (hk : k < 15) (hk' : k' = k + 1)
    {sp : Space} {s : Shape} {e : EltTy} {src : Memref sig .tc sp s e}
    {hsrc : src.view.WordExact} {hdst : (cSl k hk).view.WordExact}
    {α : Type} {Q : α → sProp 𝕄} {q : PUnit → Prog (TpuEff nD τ sig (Elt F) Λ₀ .tc) α} :
    Ctx m K ⊢ iprop(SF m c k -∗ (SF m c k' -∗ Run c (q ⟨⟩) Q)
      -∗ Run c (.op (.waitDma2 (recvS k hk) src (cSl k hk) hsrc hdst) q) Q) := by
  subst hk'
  unfold SF Ow
  rw [bigSep_ge hk, bigSep_lt hk]
  unfold dueItem
  iintro #HC ⟨⟨%W, HO⟩, ⟨⟨Hcr, Hat⟩, Hrest⟩, Hdone⟩ Hk
  iapply (Rounds.wp_wait_rest_token 𝒱₀ ER (sched m) (c : Thread nD τ) none (κ := K (c, .inr (.inr ⟨k, hk⟩)))
      (wpE_waitDma2_eq 𝒱₀ (c : Thread nD τ) none Set.univ) (Set.mem_univ _) () (O := 0) (W := W) (R := 0) (m := 0) (T := ∅)
      (by rw [Nat.zero_add, expect_recv m c ⟨k, hk⟩]; exact cSl_credit k hk)) $$ [Hcr HO Hat]
  · isplitr; · iapply (ctx_inv m K (c, .inr (.inr ⟨k, hk⟩))); iexact HC
    isplitl [Hcr]; · rw [cSl_credit]; iexact Hcr
    isplitl [HO]; · iexact HO
    isplitr; · rw [MayWait_zero]; iempintro
    iexact Hat
  iintro ⟨HO, Hat, -, Hpay⟩
  ihave Hp := (Entails.of_eq (rest_recv m c ⟨k, hk⟩)) $$ Hpay
  iapply Hk
  isplitl [HO]; · iexists _; iexact HO
  isplitl [Hrest]; · iexact Hrest
  isplitl [Hp Hat]
  · unfold landItem recvPay
    isplitl [Hp]; · iexact Hp
    iexact Hat
  iexact Hdone

theorem step_row (c : Dev nD) (k k' : ℕ) (hk : k < 15) (hk' : k' = k + 1)
    {hl : (comM : Memref sig .tc .vmem S15x1x1024 .f32).view.LoadsAt (cRect k hk).toLoadRect}
    {α : Type} {Q : α → sProp 𝕄} {q : Vec F S1x1x1024 .f32 → Prog (TpuEff nD τ sig (Elt F) Λ₀ .tc) α} :
    SF m c k' ⊢ iprop((SF m c k' -∗ Run c (q (landV m c ⟨k, hk⟩)) Q)
      -∗ Run c (.op (.load comM (cRect k hk).toLoadRect hl) q) Q) := by
  subst hk'
  unfold SF
  rw [bigSep_lt hk]
  unfold landItem cPts
  iintro ⟨HO, Hrest, ⟨Hs, Hat⟩, Hdone⟩ Hk
  iapply (wp_load 𝒱₀ (c : Thread nD τ) none Set.univ (m := comM) (S := (cSl k hk).view.set)
    (cSl_set k hk).superset) $$ Hs
  iintro Hs
  iapply Hk
  isplitl [HO]; · iexact HO
  isplitl [Hrest]; · iexact Hrest
  isplitl [Hs Hat]
  · isplitl [Hs]; · iexact Hs
    iexact Hat
  iexact Hdone

/-! ## The sends completed -/

/-- Before the wait for send `j`: its credit, and the place in the cell's rounds; -/
def pendItem (c : Dev nD) (j : Fin 15) : sProp 𝕄 := iprop(sentItem c j ∗ atPos ER (sendCell c j) 0 ∅ 0)
/-- after it: the share of the partial sum back. -/
def backItem (c : Dev nD) (j : Fin 15) : sProp 𝕄 := iprop(sendPay m c j ∗ atPos ER (sendCell c j) 1 ∅ 0)
/-- Sends `k` on are not waited for. -/
def SG (c : Dev nD) (k : ℕ) : sProp 𝕄 := iprop(Ow c 0 ∗ bigSep (ge 15 k) (pendItem c) ∗ bigSep (lt 15 k) (backItem m c))

theorem step_sent (K : Dev nD × CIx → ℕ) (c : Dev nD) (k k' : ℕ) (hk : k < 15) (hk' : k' = k + 1)
    {sp : Space} {s : Shape} {e : EltTy} {src : Memref sig .tc sp s e}
    {hsrc : src.view.WordExact} {hdst : (parM : Memref sig .tc .vmem S1x1024 .f32).view.WordExact}
    {α : Type} {Q : α → sProp 𝕄} {q : PUnit → Prog (TpuEff nD τ sig (Elt F) Λ₀ .tc) α} :
    Ctx m K ⊢ iprop(SG m c k -∗ (SG m c k' -∗ Run c (q ⟨⟩) Q)
      -∗ Run c (.op (.waitDma2 (sendS k hk) src parM hsrc hdst) q) Q) := by
  subst hk'
  unfold SG Ow
  rw [bigSep_ge hk, bigSep_lt hk]
  unfold pendItem sentItem
  iintro #HC ⟨⟨%W, HO⟩, ⟨⟨Hcr, Hat⟩, Hrest⟩, Hdone⟩ Hk
  iapply (Rounds.wp_wait_rest_token 𝒱₀ ER (sched m) (c : Thread nD τ) none (κ := K (c, .inr (.inl ⟨k, hk⟩)))
      (wpE_waitDma2_eq 𝒱₀ (c : Thread nD τ) none Set.univ) (Set.mem_univ _) () (O := 0) (W := W) (R := 0) (m := 0) (T := ∅)
      (by rw [Nat.zero_add, expect_send m c ⟨k, hk⟩]; exact parM_credit)) $$ [Hcr HO Hat]
  · isplitr; · iapply (ctx_inv m K (c, .inr (.inl ⟨k, hk⟩))); iexact HC
    isplitl [Hcr]; · rw [parM_credit]; iexact Hcr
    isplitl [HO]; · iexact HO
    isplitr; · rw [MayWait_zero]; iempintro
    iexact Hat
  iintro ⟨HO, Hat, -, Hpay⟩
  ihave Hp := (Entails.of_eq (rest_send m c ⟨k, hk⟩)) $$ Hpay
  iapply Hk
  isplitl [HO]; · iexists _; iexact HO
  isplitl [Hrest]; · iexact Hrest
  isplitl [Hp Hat]
  · unfold backItem
    isplitl [Hp]; · iexact Hp
    iexact Hat
  iexact Hdone

end Cert.MeanProof

end
-- ==== Proof.Parts.lean ====
/-
The parts the kernel's body is printed in, each run from the state of its phase to the next.
-/
module

public import proofs.«01_k».proof.Proof.Steps

@[expose] public section

set_option maxRecDepth 8000

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The devices the kernel's words name -/

/-- The device signal `j` goes to, as the kernel computes it; -/
abbrev sigDev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- the device send `j` goes to. -/
abbrev sendDev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

/-- Both are `peer c j`. -/
theorem sigDev_eq (c : Dev nD) (j : Fin 15) : sigDev c j = peer c j := by revert c j; decide +kernel
theorem sendDev_eq (c : Dev nD) (j : Fin 15) : sendDev c j = peer c j := by revert c j; decide +kernel

/-! ## The steps of the partial sum and of the result, and the end of a part -/

theorem run_ret (c : Dev nD) {α : Type} {Q : α → sProp 𝕄} (a : α) : Q a ⊢ Run (F := F) c (.ret a) Q := by
  unfold Run; rw [wp_ret]; iintro H; imodintro; iexact H

/-- The rectangle every whole-row load and store is through. -/
abbrev rRow : Rect S1x1024 := Rect.unit (s := S1x1024) ![0, 0] S1x1024.size inb_S1x1024_S1x1024_0_0

/-- The result's staging buffer. -/
def oPts (c : Dev nD) (f : Buf (Elt F) ((c : Thread nD τ).loc cc0_stg0_0)) : sProp 𝕄 :=
  (outM : Memref sig .tc .vmem S1x1024 .f32).view.loc (c : Thread nD τ) ↦[(outM : Memref sig .tc .vmem S1x1024 .f32).view.set]{fullShare} f

theorem step_loadPar (c : Dev nD) (q : PosShare TreeShare) (f : Buf (Elt F) ((c : Thread nD τ).loc cc0_scratch0))
    {hl : (parM : Memref sig .tc .vmem S1x1024 .f32).view.LoadsAt rRow.toLoadRect}
    {α : Type} {Q : α → sProp 𝕄} {k : Vec F S1x1024 .f32 → Prog (TpuEff nD τ sig (Elt F) Λ₀ .tc) α} :
    pPts c q f ⊢ iprop((pPts c q f -∗ Run c (k f) Q) -∗ Run c (.op (.load parM rRow.toLoadRect hl) k) Q) := by
  have h := wp_load (defs := defs₀ (F := F)) 𝒱₀ (c : Thread nD τ) none Set.univ (Γ := .empty) (m := parM) (r := rRow.toLoadRect) (hl := hl) (k := k) (Q := Q)
    (q := q) (f := f) (S := (parM : Memref sig .tc .vmem S1x1024 .f32).view.set) (View.setOn_subset_set _ _)
  rw [show (parM : Memref sig .tc .vmem S1x1024 .f32).view.readAt (Elt F) rRow.toLoadRect f = f from Memref.readAt_unit_zero (Elt F) cc0_scratch0 hz2 _ f] at h
  exact h

theorem step_storePar (c : Dev nD) (f w : Buf (Elt F) ((c : Thread nD τ).loc cc0_scratch0))
    {hx : ((parM : Memref sig .tc .vmem S1x1024 .f32).access rRow).Stores Finset.univ} {hm : (Finset.univ : Finset rRow.shape.Idx) = Finset.univ ∨ ∀ a, rRow.stride a = 1}
    {α : Type} {Q : α → sProp 𝕄} {k : PUnit → Prog (TpuEff nD τ sig (Elt F) Λ₀ .tc) α} :
    pPts c fullShare f ⊢ iprop((pPts c fullShare w -∗ Run c (k ⟨⟩) Q) -∗ Run c (.op (.store parM rRow w Finset.univ hx hm) k) Q) := by
  have h := wp_store (defs := defs₀ (F := F)) 𝒱₀ (c : Thread nD τ) none Set.univ (Γ := .empty) (m := parM) (r := rRow) (w := w) (Mk := Finset.univ) (hx := hx) (hm := hm) (k := k) (Q := Q)
    (f := f) (S := (parM : Memref sig .tc .vmem S1x1024 .f32).view.set)
    ((View.setOn_slice_subset_set _ _ _))
  rw [show ((parM : Memref sig .tc .vmem S1x1024 .f32).access rRow : View sig .tc _ _ _).write (Elt F) f w Finset.univ = w from
    Memref.write_access_unit_zero_univ (Elt F) cc0_scratch0 hz2 _ f w] at h
  exact h

theorem step_loadOut (c : Dev nD) (f : Buf (Elt F) ((c : Thread nD τ).loc cc0_stg0_0))
    {hl : (outM : Memref sig .tc .vmem S1x1024 .f32).view.LoadsAt rRow.toLoadRect}
    {α : Type} {Q : α → sProp 𝕄} {k : Vec F S1x1024 .f32 → Prog (TpuEff nD τ sig (Elt F) Λ₀ .tc) α} :
    oPts c f ⊢ iprop((oPts c f -∗ Run c (k f) Q) -∗ Run c (.op (.load outM rRow.toLoadRect hl) k) Q) := by
  have h := wp_load (defs := defs₀ (F := F)) 𝒱₀ (c : Thread nD τ) none Set.univ (Γ := .empty) (m := outM) (r := rRow.toLoadRect) (hl := hl) (k := k) (Q := Q)
    (q := fullShare) (f := f) (S := (outM : Memref sig .tc .vmem S1x1024 .f32).view.set) (View.setOn_subset_set _ _)
  rw [show (outM : Memref sig .tc .vmem S1x1024 .f32).view.readAt (Elt F) rRow.toLoadRect f = f from Memref.readAt_unit_zero (Elt F) cc0_stg0_0 hz2 _ f] at h
  exact h

theorem step_storeOut (c : Dev nD) (f w : Buf (Elt F) ((c : Thread nD τ).loc cc0_stg0_0))
    {hx : ((outM : Memref sig .tc .vmem S1x1024 .f32).access rRow).Stores Finset.univ} {hm : (Finset.univ : Finset rRow.shape.Idx) = Finset.univ ∨ ∀ a, rRow.stride a = 1}
    {α : Type} {Q : α → sProp 𝕄} {k : PUnit → Prog (TpuEff nD τ sig (Elt F) Λ₀ .tc) α} :
    oPts c f ⊢ iprop((oPts c w -∗ Run c (k ⟨⟩) Q) -∗ Run c (.op (.store outM rRow w Finset.univ hx hm) k) Q) := by
  have h := wp_store (defs := defs₀ (F := F)) 𝒱₀ (c : Thread nD τ) none Set.univ (Γ := .empty) (m := outM) (r := rRow) (w := w) (Mk := Finset.univ) (hx := hx) (hm := hm) (k := k) (Q := Q)
    (f := f) (S := (outM : Memref sig .tc .vmem S1x1024 .f32).view.set)
    ((View.setOn_slice_subset_set _ _ _))
  rw [show ((outM : Memref sig .tc .vmem S1x1024 .f32).access rRow : View sig .tc _ _ _).write (Elt F) f w Finset.univ = w from
    Memref.write_access_unit_zero_univ (Elt F) cc0_stg0_0 hz2 _ f w] at h
  exact h

/-! ## From one phase to the next -/

/-- All signals sent and all copies started: the waits for the copies begin. -/
theorem SA_SB_SC (c : Dev nD) : SA c 15 ⊢ iprop(SB m c 8 -∗ SC m c 0) := by
  unfold SA SB SC
  rw [ge_all 15, ge_all 8, lt_all, ge_zero, lt_zero, bigSep_empty, bigSep_empty, bigSep_empty]
  iintro ⟨HO, -⟩ ⟨-, Hf⟩
  isplitl [HO]; · iexact HO
  isplitl [Hf]; · iexact Hf
  iempintro

/-- All chunks in: every slot filled, nothing of the barrier's units owed. -/
theorem SC_done (c : Dev nD) : SC m c 8 ⊢ iprop(Ow c (oRecv c 0) ∗ bigSep Finset.univ (doneItem m c)) := by
  unfold SC
  rw [ge_all, lt_all, bigSep_empty, oBar_end, add_zero]
  iintro ⟨HO, -, Hd⟩
  isplitl [HO]; · iexact HO
  iexact Hd

/-- All rows sent: the waits for the rows begin. -/
theorem SE_SF (c : Dev nD) : SE m c 15 ⊢ iprop(bigSep Finset.univ (dueItem c) -∗ (SF m c 0 ∗ bigSep Finset.univ (sentItem c))) := by
  unfold SE SF
  rw [ge_all, lt_all, ge_zero, lt_zero, bigSep_empty, bigSep_empty, oRecv_end]
  iintro ⟨HO, -, Hs⟩ Hd
  isplitl [HO Hd]
  · isplitl [HO]; · iexact HO
    isplitl [Hd]; · iexact Hd
    iempintro
  iexact Hs

/-- All rows in: the waits for the sends begin. -/
theorem SF_SG (c : Dev nD) : SF m c 15 ⊢ iprop(bigSep Finset.univ (pendItem c) -∗ (SG m c 0 ∗ bigSep Finset.univ (landItem m c))) := by
  unfold SF SG
  rw [ge_all, lt_all, ge_zero, lt_zero, bigSep_empty, bigSep_empty]
  iintro ⟨HO, -, Hs⟩ Hd
  isplitl [HO Hd]
  · isplitl [HO]; · iexact HO
    isplitl [Hd]; · iexact Hd
    iempintro
  iexact Hs

/-- All sends completed: every share of the partial sum back, nothing owed. -/
theorem SG_done (c : Dev nD) : SG m c 15 ⊢ iprop(Ow c 0 ∗ bigSep Finset.univ (backItem m c)) := by
  unfold SG
  rw [ge_all, lt_all, bigSep_empty]
  iintro ⟨HO, -, Hd⟩
  isplitl [HO]; · iexact HO
  iexact Hd

/-! ## The parts -/

section Parts

variable (K : Dev nD × CIx → ℕ) (c : Dev nD)

/-- Part 1: signals 0 to 1. -/
theorem part1 {Q} : Ctx m K ⊢ iprop(SA c 0
    -∗ (∀ v2 v30 w v31, SA c 2 -∗ Q ⟨c, v2, SemArray.scalar (sig.barrier 0 rfl), v30, w, v31⟩)
    -∗ Run (F := F) c (k0_part1 xM (Memref.isWhole_whole _) outM (Memref.isWhole_whole _) parM (Memref.isWhole_whole _) bufM (Memref.isWhole_whole _)
      comM (Memref.isWhole_whole _) cc0_scratch3 cc0_scratch4 cc0_scratch5 ) Q) := by
  rw [k0_part1_eq_skeleton]; unfold k0_part1_skel
  simp only [semSignalWord, semWaitWord, Prog.lift, Prog.bind_op, Prog.bind_ret, Prog.pure_eq_ret, wp_deviceId]
  iintro #HC HS HQ
  iapply (step_signal m K c 0 1 (by decide) rfl _ (sigDev_eq c 0)) $$ HC HS; iintro HS
  iapply (step_signal m K c 1 2 (by decide) rfl _ (sigDev_eq c 1)) $$ HC HS; iintro HS
  iapply (run_ret c); iapply HQ; iexact HS

/-- Part 2: signals 2 to 3. -/
theorem part2 (v2 v30 w v31) {Q} : Ctx m K ⊢ iprop(SA c 2
    -∗ (∀ r, SA c 4 -∗ Q r)
    -∗ Run (F := F) c (k0_part2 xM (Memref.isWhole_whole _) outM (Memref.isWhole_whole _) parM (Memref.isWhole_whole _) bufM (Memref.isWhole_whole _)
      comM (Memref.isWhole_whole _) cc0_scratch3 cc0_scratch4 cc0_scratch5 c v2 (SemArray.scalar (sig.barrier 0 rfl)) v30 w v31) Q) := by
  rw [k0_part2_eq_skeleton]; unfold k0_part2_skel
  simp only [semSignalWord, semWaitWord, Prog.lift, Prog.bind_op, Prog.bind_ret, Prog.pure_eq_ret, wp_deviceId]
  iintro #HC HS HQ
  iapply (step_signal m K c 2 3 (by decide) rfl _ (sigDev_eq c 2)) $$ HC HS; iintro HS
  iapply (step_signal m K c 3 4 (by decide) rfl _ (sigDev_eq c 3)) $$ HC HS; iintro HS
  iapply (run_ret c); iapply HQ; iexact HS

/-- Part 3: signals 4 to 6. -/
theorem part3 (v2 v59 v64 v65) {Q} : Ctx m K ⊢ iprop(SA c 4
    -∗ (∀ r, SA c 7 -∗ Q r)
    -∗ Run (F := F) c (k0_part3 xM (Memref.isWhole_whole _) outM (Memref.isWhole_whole _) parM (Memref.isWhole_whole _) bufM (Memref.isWhole_whole _)
      comM (Memref.isWhole_whole _) cc0_scratch3 cc0_scratch4 cc0_scratch5 c v2 (SemArray.scalar (sig.barrier 0 rfl)) v59 v64 v65) Q) := by
  rw [k0_part3_eq_skeleton]; unfold k0_part3_skel
  simp only [semSignalWord, semWaitWord, Prog.lift, Prog.bind_op, Prog.bind_ret, Prog.pure_eq_ret, wp_deviceId]
  iintro #HC HS HQ
  iapply (step_signal m K c 4 5 (by decide) rfl _ (sigDev_eq c 4)) $$ HC HS; iintro HS
  iapply (step_signal m K c 5 6 (by decide) rfl _ (sigDev_eq c 5)) $$ HC HS; iintro HS
  iapply (step_signal m K c 6 7 (by decide) rfl _ (sigDev_eq c 6)) $$ HC HS; iintro HS
  iapply (run_ret c); iapply HQ; iexact HS

/-- Part 4: signals 7 to 8. -/
theorem part4 (v2 v95 w v96) {Q} : Ctx m K ⊢ iprop(SA c 7
    -∗ (∀ r, SA c 9 -∗ Q r)
    -∗ Run (F := F) c (k0_part4 xM (Memref.isWhole_whole _) outM (Memref.isWhole_whole _) parM (Memref.isWhole_whole _) bufM (Memref.isWhole_whole _)
      comM (Memref.isWhole_whole _) cc0_scratch3 cc0_scratch4 cc0_scratch5 c v2 (SemArray.scalar (sig.barrier 0 rfl)) v95 w v96) Q) := by
  rw [k0_part4_eq_skeleton]; unfold k0_part4_skel
  simp only [semSignalWord, semWaitWord, Prog.lift, Prog.bind_op, Prog.bind_ret, Prog.pure_eq_ret, wp_deviceId]
  iintro #HC HS HQ
  iapply (step_signal m K c 7 8 (by decide) rfl _ (sigDev_eq c 7)) $$ HC HS; iintro HS
  iapply (step_signal m K c 8 9 (by decide) rfl _ (sigDev_eq c 8)) $$ HC HS; iintro HS
  iapply (run_ret c); iapply HQ; iexact HS

/-- Part 5: signals 9 to 11. -/
theorem part5 (v2 v124 v129 v130) {Q} : Ctx m K ⊢ iprop(SA c 9
    -∗ (∀ r, SA c 12 -∗ Q r)
    -∗ Run (F := F) c (k0_part5 xM (Memref.isWhole_whole _) outM (Memref.isWhole_whole _) parM (Memref.isWhole_whole _) bufM (Memref.isWhole_whole _)
      comM (Memref.isWhole_whole _) cc0_scratch3 cc0_scratch4 cc0_scratch5 c v2 (SemArray.scalar (sig.barrier 0 rfl)) v124 v129 v130) Q) := by
  rw [k0_part5_eq_skeleton]; unfold k0_part5_skel
  simp only [semSignalWord, semWaitWord, Prog.lift, Prog.bind_op, Prog.bind_ret, Prog.pure_eq_ret, wp_deviceId]
  iintro #HC HS HQ
  iapply (step_signal m K c 9 10 (by decide) rfl _ (sigDev_eq c 9)) $$ HC HS; iintro HS
  iapply (step_signal m K c 10 11 (by decide) rfl _ (sigDev_eq c 10)) $$ HC HS; iintro HS
  iapply (step_signal m K c 11 12 (by decide) rfl _ (sigDev_eq c 11)) $$ HC HS; iintro HS
  iapply (run_ret c); iapply HQ; iexact HS

/-- Part 6: signals 12 to 13. -/
theorem part6 (v2 v160 w v161) {Q} : Ctx m K ⊢ iprop(SA c 12
    -∗ (∀ r, SA c 14 -∗ Q r)
    -∗ Run (F := F) c (k0_part6 xM (Memref.isWhole_whole _) outM (Memref.isWhole_whole _) parM (Memref.isWhole_whole _) bufM (Memref.isWhole_whole _)
      comM (Memref.isWhole_whole _) cc0_scratch3 cc0_scratch4 cc0_scratch5 c v2 (SemArray.scalar (sig.barrier 0 rfl)) v160 w v161) Q) := by
  rw [k0_part6_eq_skeleton]; unfold k0_part6_skel
  simp only [semSignalWord, semWaitWord, Prog.lift, Prog.bind_op, Prog.bind_ret, Prog.pure_eq_ret, wp_deviceId]
  iintro #HC HS HQ
  iapply (step_signal m K c 12 13 (by decide) rfl _ (sigDev_eq c 12)) $$ HC HS; iintro HS
  iapply (step_signal m K c 13 14 (by decide) rfl _ (sigDev_eq c 13)) $$ HC HS; iintro HS
  iapply (run_ret c); iapply HQ; iexact HS

/-- Part 7: the last signal, copies 0 to 3 started. -/
theorem part7 (v189 v194 v195) {Q} : Ctx m K ⊢ iprop(SA c 14 -∗ SB m c 0
    -∗ (SA c 15 -∗ SB m c 4 -∗ Q ⟨⟩)
    -∗ Run (F := F) c (k0_part7 xM (Memref.isWhole_whole _) outM (Memref.isWhole_whole _) parM (Memref.isWhole_whole _) bufM (Memref.isWhole_whole _)
      comM (Memref.isWhole_whole _) cc0_scratch3 cc0_scratch4 cc0_scratch5 c (SemArray.scalar (sig.barrier 0 rfl)) v189 v194 v195) Q) := by
  rw [k0_part7_eq_skeleton]; unfold k0_part7_skel
  simp only [semSignalWord, semWaitWord, Prog.lift, Prog.bind_op, Prog.bind_ret, Prog.pure_eq_ret, wp_deviceId]
  iintro #HC HS HB HQ
  iapply (step_signal m K c 14 15 (by decide) rfl _ (sigDev_eq c 14)) $$ HC HS; iintro HS
  iapply (step_copy m c 0 1 (by decide) rfl) $$ HB; iintro HB
  iapply (step_copy m c 1 2 (by decide) rfl) $$ HB; iintro HB
  iapply (step_copy m c 2 3 (by decide) rfl) $$ HB; iintro HB
  iapply (step_copy m c 3 4 (by decide) rfl) $$ HB; iintro HB
  iapply (run_ret c); iapply HQ $$ HS HB

/-- Part 8: copies 4 to 7 started, copy 0 waited for. -/
theorem part8 {Q} : Ctx m K ⊢ iprop(SA c 15 -∗ SB m c 4
    -∗ (SC m c 1 -∗ Q k0_pay1)
    -∗ Run (F := F) c (k0_part8 xM (Memref.isWhole_whole _) outM (Memref.isWhole_whole _) parM (Memref.isWhole_whole _) bufM (Memref.isWhole_whole _)
      comM (Memref.isWhole_whole _) cc0_scratch3 cc0_scratch4 cc0_scratch5 ) Q) := by
  rw [k0_part8_eq_skeleton]; unfold k0_part8_skel
  simp only [semSignalWord, semWaitWord, Prog.lift, Prog.bind_op, Prog.bind_ret, Prog.pure_eq_ret, wp_deviceId]
  iintro #HC HA HB HQ
  iapply (step_copy m c 4 5 (by decide) rfl) $$ HB; iintro HB
  iapply (step_copy m c 5 6 (by decide) rfl) $$ HB; iintro HB
  iapply (step_copy m c 6 7 (by decide) rfl) $$ HB; iintro HB
  iapply (step_copy m c 7 8 (by decide) rfl) $$ HB; iintro HB
  ihave HS := (SA_SB_SC m c) $$ HA HB
  iapply (step_copied m K c 0 1 (by decide) rfl) $$ HC HS; iintro HS
  iapply (run_ret c); iapply HQ; iexact HS

/-- Part 9: chunks 0 to 2 added. -/
theorem part9 {Q} : Ctx m K ⊢ iprop(SC m c 1
    -∗ (SC m c 3 -∗ Q (acc2 m c))
    -∗ Run (F := F) c (k0_part9 xM (Memref.isWhole_whole _) outM (Memref.isWhole_whole _) parM (Memref.isWhole_whole _) bufM (Memref.isWhole_whole _)
      comM (Memref.isWhole_whole _) cc0_scratch3 cc0_scratch4 cc0_scratch5 k0_pay1) Q) := by
  rw [k0_part9_eq_skeleton]; unfold k0_part9_skel
  simp only [semSignalWord, semWaitWord, Prog.lift, Prog.bind_op, Prog.bind_ret, Prog.pure_eq_ret, wp_deviceId]
  iintro #HC HS HQ
  iapply (step_chunk m c 0 1 (by decide) rfl) $$ HS; iintro HS
  iapply (step_copied m K c 1 2 (by decide) rfl) $$ HC HS; iintro HS
  iapply (step_chunk m c 1 2 (by decide) rfl) $$ HS; iintro HS
  iapply (step_copied m K c 2 3 (by decide) rfl) $$ HC HS; iintro HS
  iapply (step_chunk m c 2 3 (by decide) rfl) $$ HS; iintro HS
  iapply (run_ret c (acc2 m c)); iapply HQ; iexact HS

/-- Part 10: chunks 3 to 5 added. -/
theorem part10 {Q} : Ctx m K ⊢ iprop(SC m c 3
    -∗ (SC m c 6 -∗ Q (acc3 m c))
    -∗ Run (F := F) c (k0_part10 xM (Memref.isWhole_whole _) outM (Memref.isWhole_whole _) parM (Memref.isWhole_whole _) bufM (Memref.isWhole_whole _)
      comM (Memref.isWhole_whole _) cc0_scratch3 cc0_scratch4 cc0_scratch5 (acc2 m c)) Q) := by
  rw [k0_part10_eq_skeleton]; unfold k0_part10_skel
  simp only [semSignalWord, semWaitWord, Prog.lift, Prog.bind_op, Prog.bind_ret, Prog.pure_eq_ret, wp_deviceId]
  iintro #HC HS HQ
  iapply (step_copied m K c 3 4 (by decide) rfl) $$ HC HS; iintro HS
  iapply (step_chunk m c 3 4 (by decide) rfl) $$ HS; iintro HS
  iapply (step_copied m K c 4 5 (by decide) rfl) $$ HC HS; iintro HS
  iapply (step_chunk m c 4 5 (by decide) rfl) $$ HS; iintro HS
  iapply (step_copied m K c 5 6 (by decide) rfl) $$ HC HS; iintro HS
  iapply (step_chunk m c 5 6 (by decide) rfl) $$ HS; iintro HS
  iapply (run_ret c (acc3 m c)); iapply HQ; iexact HS

/-- Part 11: the last two chunks, the partial sum stored, the barrier waited for. -/
theorem part11 (v2) {Q} : Ctx m K ⊢ iprop(SC m c 6 -∗ cred (tallyAt (barCell c) () 15) -∗ atPos ER (barCell c) 0 ∅ 0 -∗ (∃ f, pPts c fullShare f)
    -∗ (∀ r, Ow c (oRecv c 0) -∗ bigSep Finset.univ (doneItem m c) -∗ pPts c fullShare (parC m c) -∗ atPos ER (barCell c) 1 ∅ 0 -∗ bigSep Finset.univ (fun d => barPay (F := F) c d) -∗ Q r)
    -∗ Run (F := F) c (k0_part11 xM (Memref.isWhole_whole _) outM (Memref.isWhole_whole _) parM (Memref.isWhole_whole _) bufM (Memref.isWhole_whole _)
      comM (Memref.isWhole_whole _) cc0_scratch3 cc0_scratch4 cc0_scratch5 v2 (SemArray.scalar (sig.barrier 0 rfl)) (acc3 m c)) Q) := by
  rw [k0_part11_eq_skeleton]; unfold k0_part11_skel
  simp only [semSignalWord, semWaitWord, Prog.lift, Prog.bind_op, Prog.bind_ret, Prog.pure_eq_ret, wp_deviceId]
  iintro #HC HS Hcr Hat ⟨%f, Hp⟩ HQ
  iapply (step_copied m K c 6 7 (by decide) rfl) $$ HC HS; iintro HS
  iapply (step_chunk m c 6 7 (by decide) rfl) $$ HS; iintro HS
  iapply (step_copied m K c 7 8 (by decide) rfl) $$ HC HS; iintro HS
  iapply (step_chunk m c 7 8 (by decide) rfl) $$ HS; iintro HS
  iapply (step_loadPar c fullShare f) $$ Hp; iintro Hp
  iapply (step_storePar c f (parC m c)) $$ Hp; iintro Hp
  ihave HS := (SC_done m c) $$ HS
  icases HS with ⟨HO, Hd⟩
  iapply (step_barrier m K c) $$ HC HO Hcr Hat; iintro ⟨HO, Hat, Hpay⟩
  iapply (run_ret c); iapply HQ $$ HO Hd Hp Hat Hpay

/-- Part 12: sends 0 to 1. -/
theorem part12 (v2 v333 v334 v335) {Q} : Ctx m K ⊢ iprop(SE m c 0
    -∗ (∀ r, SE m c 2 -∗ Q r)
    -∗ Run (F := F) c (k0_part12 xM (Memref.isWhole_whole _) outM (Memref.isWhole_whole _) parM (Memref.isWhole_whole _) bufM (Memref.isWhole_whole _)
      comM (Memref.isWhole_whole _) cc0_scratch3 cc0_scratch4 cc0_scratch5 c v2 v333 v334 v335) Q) := by
  rw [k0_part12_eq_skeleton]; unfold k0_part12_skel
  simp only [semSignalWord, semWaitWord, Prog.lift, Prog.bind_op, Prog.bind_ret, Prog.pure_eq_ret, wp_deviceId]
  iintro #HC HS HQ
  iapply (step_send m K c 0 1 (by decide) rfl _ (sendDev_eq c 0)) $$ HC HS; iintro HS
  iapply (step_send m K c 1 2 (by decide) rfl _ (sendDev_eq c 1)) $$ HC HS; iintro HS
  iapply (run_ret c); iapply HQ; iexact HS

/-- Part 13: send 2. -/
theorem part13 (v2 v369) {Q} : Ctx m K ⊢ iprop(SE m c 2
    -∗ (∀ r, SE m c 3 -∗ Q r)
    -∗ Run (F := F) c (k0_part13 xM (Memref.isWhole_whole _) outM (Memref.isWhole_whole _) parM (Memref.isWhole_whole _) bufM (Memref.isWhole_whole _)
      comM (Memref.isWhole_whole _) cc0_scratch3 cc0_scratch4 cc0_scratch5 c v2 v369) Q) := by
  rw [k0_part13_eq_skeleton]; unfold k0_part13_skel
  simp only [semSignalWord, semWaitWord, Prog.lift, Prog.bind_op, Prog.bind_ret, Prog.pure_eq_ret, wp_deviceId]
  iintro #HC HS HQ
  iapply (step_send m K c 2 3 (by decide) rfl _ (sendDev_eq c 2)) $$ HC HS; iintro HS
  iapply (run_ret c); iapply HQ; iexact HS

/-- Part 14: sends 3 to 4. -/
theorem part14 (v2) {Q} : Ctx m K ⊢ iprop(SE m c 3
    -∗ (∀ r, SE m c 5 -∗ Q r)
    -∗ Run (F := F) c (k0_part14 xM (Memref.isWhole_whole _) outM (Memref.isWhole_whole _) parM (Memref.isWhole_whole _) bufM (Memref.isWhole_whole _)
      comM (Memref.isWhole_whole _) cc0_scratch3 cc0_scratch4 cc0_scratch5 c v2) Q) := by
  rw [k0_part14_eq_skeleton]; unfold k0_part14_skel
  simp only [semSignalWord, semWaitWord, Prog.lift, Prog.bind_op, Prog.bind_ret, Prog.pure_eq_ret, wp_deviceId]
  iintro #HC HS HQ
  iapply (step_send m K c 3 4 (by decide) rfl _ (sendDev_eq c 3)) $$ HC HS; iintro HS
  iapply (step_send m K c 4 5 (by decide) rfl _ (sendDev_eq c 4)) $$ HC HS; iintro HS
  iapply (run_ret c); iapply HQ; iexact HS

/-- Part 15: sends 5 to 6. -/
theorem part15 (v2 v436) {Q} : Ctx m K ⊢ iprop(SE m c 5
    -∗ (∀ r, SE m c 7 -∗ Q r)
    -∗ Run (F := F) c (k0_part15 xM (Memref.isWhole_whole _) outM (Memref.isWhole_whole _) parM (Memref.isWhole_whole _) bufM (Memref.isWhole_whole _)
      comM (Memref.isWhole_whole _) cc0_scratch3 cc0_scratch4 cc0_scratch5 c v2 v436) Q) := by
  rw [k0_part15_eq_skeleton]; unfold k0_part15_skel
  simp only [semSignalWord, semWaitWord, Prog.lift, Prog.bind_op, Prog.bind_ret, Prog.pure_eq_ret, wp_deviceId]
  iintro #HC HS HQ
  iapply (step_send m K c 5 6 (by decide) rfl _ (sendDev_eq c 5)) $$ HC HS; iintro HS
  iapply (step_send m K c 6 7 (by decide) rfl _ (sendDev_eq c 6)) $$ HC HS; iintro HS
  iapply (run_ret c); iapply HQ; iexact HS

/-- Part 16: sends 7 to 8. -/
theorem part16 (v2 v466 v467 v468 v469) {Q} : Ctx m K ⊢ iprop(SE m c 7
    -∗ (∀ r, SE m c 9 -∗ Q r)
    -∗ Run (F := F) c (k0_part16 xM (Memref.isWhole_whole _) outM (Memref.isWhole_whole _) parM (Memref.isWhole_whole _) bufM (Memref.isWhole_whole _)
      comM (Memref.isWhole_whole _) cc0_scratch3 cc0_scratch4 cc0_scratch5 c v2 v466 v467 v468 v469) Q) := by
  rw [k0_part16_eq_skeleton]; unfold k0_part16_skel
  simp only [semSignalWord, semWaitWord, Prog.lift, Prog.bind_op, Prog.bind_ret, Prog.pure_eq_ret, wp_deviceId]
  iintro #HC HS HQ
  iapply (step_send m K c 7 8 (by decide) rfl _ (sendDev_eq c 7)) $$ HC HS; iintro HS
  iapply (step_send m K c 8 9 (by decide) rfl _ (sendDev_eq c 8)) $$ HC HS; iintro HS
  iapply (run_ret c); iapply HQ; iexact HS

/-- Part 17: send 9. -/
theorem part17 (v2 v502 w z) {Q} : Ctx m K ⊢ iprop(SE m c 9
    -∗ (∀ r, SE m c 10 -∗ Q r)
    -∗ Run (F := F) c (k0_part17 xM (Memref.isWhole_whole _) outM (Memref.isWhole_whole _) parM (Memref.isWhole_whole _) bufM (Memref.isWhole_whole _)
      comM (Memref.isWhole_whole _) cc0_scratch3 cc0_scratch4 cc0_scratch5 c v2 v502 w z) Q) := by
  rw [k0_part17_eq_skeleton]; unfold k0_part17_skel
  simp only [semSignalWord, semWaitWord, Prog.lift, Prog.bind_op, Prog.bind_ret, Prog.pure_eq_ret, wp_deviceId]
  iintro #HC HS HQ
  iapply (step_send m K c 9 10 (by decide) rfl _ (sendDev_eq c 9)) $$ HC HS; iintro HS
  iapply (run_ret c); iapply HQ; iexact HS

/-- Part 18: sends 10 to 11. -/
theorem part18 (v2) {Q} : Ctx m K ⊢ iprop(SE m c 10
    -∗ (∀ r, SE m c 12 -∗ Q r)
    -∗ Run (F := F) c (k0_part18 xM (Memref.isWhole_whole _) outM (Memref.isWhole_whole _) parM (Memref.isWhole_whole _) bufM (Memref.isWhole_whole _)
      comM (Memref.isWhole_whole _) cc0_scratch3 cc0_scratch4 cc0_scratch5 c v2) Q) := by
  rw [k0_part18_eq_skeleton]; unfold k0_part18_skel
  simp only [semSignalWord, semWaitWord, Prog.lift, Prog.bind_op, Prog.bind_ret, Prog.pure_eq_ret, wp_deviceId]
  iintro #HC HS HQ
  iapply (step_send m K c 10 11 (by decide) rfl _ (sendDev_eq c 10)) $$ HC HS; iintro HS
  iapply (step_send m K c 11 12 (by decide) rfl _ (sendDev_eq c 11)) $$ HC HS; iintro HS
  iapply (run_ret c); iapply HQ; iexact HS

/-- Part 19: sends 12 to 13. -/
theorem part19 (v2 v569 w) {Q} : Ctx m K ⊢ iprop(SE m c 12
    -∗ (∀ r, SE m c 14 -∗ Q r)
    -∗ Run (F := F) c (k0_part19 xM (Memref.isWhole_whole _) outM (Memref.isWhole_whole _) parM (Memref.isWhole_whole _) bufM (Memref.isWhole_whole _)
      comM (Memref.isWhole_whole _) cc0_scratch3 cc0_scratch4 cc0_scratch5 c v2 v569 w) Q) := by
  rw [k0_part19_eq_skeleton]; unfold k0_part19_skel
  simp only [semSignalWord, semWaitWord, Prog.lift, Prog.bind_op, Prog.bind_ret, Prog.pure_eq_ret, wp_deviceId]
  iintro #HC HS HQ
  iapply (step_send m K c 12 13 (by decide) rfl _ (sendDev_eq c 12)) $$ HC HS; iintro HS
  iapply (step_send m K c 13 14 (by decide) rfl _ (sendDev_eq c 13)) $$ HC HS; iintro HS
  iapply (run_ret c); iapply HQ; iexact HS

/-- Part 20: the last send; the sum started from the partial sum and row 0. -/
theorem part20 (v341 v360 v599 v600 v601 v602 v603) {Q} : Ctx m K ⊢ iprop(SE m c 14 -∗ bigSep Finset.univ (dueItem (F := F) c) -∗ pPts c (Transfers.shareDrop fullShare 15) (parC m c)
    -∗ (∀ v607, SF m c 2 -∗ bigSep Finset.univ (sentItem (F := F) c) -∗ pPts c (Transfers.shareDrop fullShare 15) (parC m c) -∗ Q ⟨v607, tot5 m c⟩)
    -∗ Run (F := F) c (k0_part20 xM (Memref.isWhole_whole _) outM (Memref.isWhole_whole _) parM (Memref.isWhole_whole _) bufM (Memref.isWhole_whole _)
      comM (Memref.isWhole_whole _) cc0_scratch3 cc0_scratch4 cc0_scratch5 c v341 v360 v599 v600 v601 v602 v603) Q) := by
  rw [k0_part20_eq_skeleton]; unfold k0_part20_skel
  simp only [semSignalWord, semWaitWord, Prog.lift, Prog.bind_op, Prog.bind_ret, Prog.pure_eq_ret, wp_deviceId]
  iintro #HC HS Hdue Hp HQ
  iapply (step_send m K c 14 15 (by decide) rfl _ (sendDev_eq c 14)) $$ HC HS; iintro HS
  ihave HS := (SE_SF m c) $$ HS Hdue
  icases HS with ⟨HS, Hsent⟩
  iapply (step_loadPar c _ (parC m c)) $$ Hp; iintro Hp
  iapply (step_recv m K c 0 1 (by decide) rfl) $$ HC HS; iintro HS
  iapply (step_row m c 0 1 (by decide) rfl) $$ HS; iintro HS
  iapply (step_recv m K c 1 2 (by decide) rfl) $$ HC HS; iintro HS
  iapply (run_ret c); iapply HQ $$ HS Hsent Hp

/-- Part 21: rows 1 to 3 added. -/
theorem part21 (v379 v398 v417) {Q} : Ctx m K ⊢ iprop(SF m c 2
    -∗ (SF m c 5 -∗ Q (tot6 m c))
    -∗ Run (F := F) c (k0_part21 xM (Memref.isWhole_whole _) outM (Memref.isWhole_whole _) parM (Memref.isWhole_whole _) bufM (Memref.isWhole_whole _)
      comM (Memref.isWhole_whole _) cc0_scratch3 cc0_scratch4 cc0_scratch5 v379 v398 v417 (tot5 m c)) Q) := by
  rw [k0_part21_eq_skeleton]; unfold k0_part21_skel
  simp only [semSignalWord, semWaitWord, Prog.lift, Prog.bind_op, Prog.bind_ret, Prog.pure_eq_ret, wp_deviceId]
  iintro #HC HS HQ
  iapply (step_row m c 1 2 (by decide) rfl) $$ HS; iintro HS
  iapply (step_recv m K c 2 3 (by decide) rfl) $$ HC HS; iintro HS
  iapply (step_row m c 2 3 (by decide) rfl) $$ HS; iintro HS
  iapply (step_recv m K c 3 4 (by decide) rfl) $$ HC HS; iintro HS
  iapply (step_row m c 3 4 (by decide) rfl) $$ HS; iintro HS
  iapply (step_recv m K c 4 5 (by decide) rfl) $$ HC HS; iintro HS
  iapply (run_ret c (tot6 m c)); iapply HQ; iexact HS

/-- Part 22: rows 4 to 6 added. -/
theorem part22 (v436 v455 v474) {Q} : Ctx m K ⊢ iprop(SF m c 5
    -∗ (SF m c 8 -∗ Q (tot7 m c))
    -∗ Run (F := F) c (k0_part22 xM (Memref.isWhole_whole _) outM (Memref.isWhole_whole _) parM (Memref.isWhole_whole _) bufM (Memref.isWhole_whole _)
      comM (Memref.isWhole_whole _) cc0_scratch3 cc0_scratch4 cc0_scratch5 v436 v455 v474 (tot6 m c)) Q) := by
  rw [k0_part22_eq_skeleton]; unfold k0_part22_skel
  simp only [semSignalWord, semWaitWord, Prog.lift, Prog.bind_op, Prog.bind_ret, Prog.pure_eq_ret, wp_deviceId]
  iintro #HC HS HQ
  iapply (step_row m c 4 5 (by decide) rfl) $$ HS; iintro HS
  iapply (step_recv m K c 5 6 (by decide) rfl) $$ HC HS; iintro HS
  iapply (step_row m c 5 6 (by decide) rfl) $$ HS; iintro HS
  iapply (step_recv m K c 6 7 (by decide) rfl) $$ HC HS; iintro HS
  iapply (step_row m c 6 7 (by decide) rfl) $$ HS; iintro HS
  iapply (step_recv m K c 7 8 (by decide) rfl) $$ HC HS; iintro HS
  iapply (run_ret c (tot7 m c)); iapply HQ; iexact HS

/-- Part 23: rows 7 to 9 added. -/
theorem part23 (v493 v512 v531) {Q} : Ctx m K ⊢ iprop(SF m c 8
    -∗ (SF m c 11 -∗ Q (tot8 m c))
    -∗ Run (F := F) c (k0_part23 xM (Memref.isWhole_whole _) outM (Memref.isWhole_whole _) parM (Memref.isWhole_whole _) bufM (Memref.isWhole_whole _)
      comM (Memref.isWhole_whole _) cc0_scratch3 cc0_scratch4 cc0_scratch5 v493 v512 v531 (tot7 m c)) Q) := by
  rw [k0_part23_eq_skeleton]; unfold k0_part23_skel
  simp only [semSignalWord, semWaitWord, Prog.lift, Prog.bind_op, Prog.bind_ret, Prog.pure_eq_ret, wp_deviceId]
  iintro #HC HS HQ
  iapply (step_row m c 7 8 (by decide) rfl) $$ HS; iintro HS
  iapply (step_recv m K c 8 9 (by decide) rfl) $$ HC HS; iintro HS
  iapply (step_row m c 8 9 (by decide) rfl) $$ HS; iintro HS
  iapply (step_recv m K c 9 10 (by decide) rfl) $$ HC HS; iintro HS
  iapply (step_row m c 9 10 (by decide) rfl) $$ HS; iintro HS
  iapply (step_recv m K c 10 11 (by decide) rfl) $$ HC HS; iintro HS
  iapply (run_ret c (tot8 m c)); iapply HQ; iexact HS

/-- Part 24: rows 10 to 12 added. -/
theorem part24 (v550 v569 v588) {Q} : Ctx m K ⊢ iprop(SF m c 11
    -∗ (SF m c 14 -∗ Q (tot9 m c))
    -∗ Run (F := F) c (k0_part24 xM (Memref.isWhole_whole _) outM (Memref.isWhole_whole _) parM (Memref.isWhole_whole _) bufM (Memref.isWhole_whole _)
      comM (Memref.isWhole_whole _) cc0_scratch3 cc0_scratch4 cc0_scratch5 v550 v569 v588 (tot8 m c)) Q) := by
  rw [k0_part24_eq_skeleton]; unfold k0_part24_skel
  simp only [semSignalWord, semWaitWord, Prog.lift, Prog.bind_op, Prog.bind_ret, Prog.pure_eq_ret, wp_deviceId]
  iintro #HC HS HQ
  iapply (step_row m c 10 11 (by decide) rfl) $$ HS; iintro HS
  iapply (step_recv m K c 11 12 (by decide) rfl) $$ HC HS; iintro HS
  iapply (step_row m c 11 12 (by decide) rfl) $$ HS; iintro HS
  iapply (step_recv m K c 12 13 (by decide) rfl) $$ HC HS; iintro HS
  iapply (step_row m c 12 13 (by decide) rfl) $$ HS; iintro HS
  iapply (step_recv m K c 13 14 (by decide) rfl) $$ HC HS; iintro HS
  iapply (run_ret c (tot9 m c)); iapply HQ; iexact HS

/-- Part 25: the last two rows added, the result stored, sends 0 and 1 waited for. -/
theorem part25 (v607) {Q} : Ctx m K ⊢ iprop(SF m c 14 -∗ bigSep Finset.univ (pendItem (F := F) c) -∗ (∃ f, oPts c f)
    -∗ (SG m c 2 -∗ bigSep Finset.univ (landItem m c) -∗ oPts c (outC m c) -∗ Q ⟨⟩)
    -∗ Run (F := F) c (k0_part25 xM (Memref.isWhole_whole _) outM (Memref.isWhole_whole _) parM (Memref.isWhole_whole _) bufM (Memref.isWhole_whole _)
      comM (Memref.isWhole_whole _) cc0_scratch3 cc0_scratch4 cc0_scratch5 v607 (tot9 m c)) Q) := by
  rw [k0_part25_eq_skeleton]; unfold k0_part25_skel
  simp only [semSignalWord, semWaitWord, Prog.lift, Prog.bind_op, Prog.bind_ret, Prog.pure_eq_ret, wp_deviceId]
  iintro #HC HS Hpend ⟨%f, Ho⟩ HQ
  iapply (step_row m c 13 14 (by decide) rfl) $$ HS; iintro HS
  iapply (step_recv m K c 14 15 (by decide) rfl) $$ HC HS; iintro HS
  iapply (step_row m c 14 15 (by decide) rfl) $$ HS; iintro HS
  ihave HS := (SF_SG m c) $$ HS Hpend
  icases HS with ⟨HS, Hland⟩
  iapply (step_loadOut c f) $$ Ho; iintro Ho
  iapply (step_storeOut c f (outC m c)) $$ Ho; iintro Ho
  iapply (step_sent m K c 0 1 (by decide) rfl) $$ HC HS; iintro HS
  iapply (step_sent m K c 1 2 (by decide) rfl) $$ HC HS; iintro HS
  iapply (run_ret c); iapply HQ $$ HS Hland Ho

/-- Part 26: sends 2 to 7 waited for. -/
theorem part26 {Q} : Ctx m K ⊢ iprop(SG m c 2
    -∗ (SG m c 8 -∗ Q ⟨⟩)
    -∗ Run (F := F) c (k0_part26 xM (Memref.isWhole_whole _) outM (Memref.isWhole_whole _) parM (Memref.isWhole_whole _) bufM (Memref.isWhole_whole _)
      comM (Memref.isWhole_whole _) cc0_scratch3 cc0_scratch4 cc0_scratch5 ) Q) := by
  rw [k0_part26_eq_skeleton]; unfold k0_part26_skel
  simp only [semSignalWord, semWaitWord, Prog.lift, Prog.bind_op, Prog.bind_ret, Prog.pure_eq_ret, wp_deviceId]
  iintro #HC HS HQ
  iapply (step_sent m K c 2 3 (by decide) rfl) $$ HC HS; iintro HS
  iapply (step_sent m K c 3 4 (by decide) rfl) $$ HC HS; iintro HS
  iapply (step_sent m K c 4 5 (by decide) rfl) $$ HC HS; iintro HS
  iapply (step_sent m K c 5 6 (by decide) rfl) $$ HC HS; iintro HS
  iapply (step_sent m K c 6 7 (by decide) rfl) $$ HC HS; iintro HS
  iapply (step_sent m K c 7 8 (by decide) rfl) $$ HC HS; iintro HS
  iapply (run_ret c); iapply HQ; iexact HS

/-- Part 27: sends 8 to 12 waited for. -/
theorem part27 {Q} : Ctx m K ⊢ iprop(SG m c 8
    -∗ (SG m c 13 -∗ Q ⟨⟩)
    -∗ Run (F := F) c (k0_part27 xM (Memref.isWhole_whole _) outM (Memref.isWhole_whole _) parM (Memref.isWhole_whole _) bufM (Memref.isWhole_whole _)
      comM (Memref.isWhole_whole _) cc0_scratch3 cc0_scratch4 cc0_scratch5 ) Q) := by
  rw [k0_part27_eq_skeleton]; unfold k0_part27_skel
  simp only [semSignalWord, semWaitWord, Prog.lift, Prog.bind_op, Prog.bind_ret, Prog.pure_eq_ret, wp_deviceId]
  iintro #HC HS HQ
  iapply (step_sent m K c 8 9 (by decide) rfl) $$ HC HS; iintro HS
  iapply (step_sent m K c 9 10 (by decide) rfl) $$ HC HS; iintro HS
  iapply (step_sent m K c 10 11 (by decide) rfl) $$ HC HS; iintro HS
  iapply (step_sent m K c 11 12 (by decide) rfl) $$ HC HS; iintro HS
  iapply (step_sent m K c 12 13 (by decide) rfl) $$ HC HS; iintro HS
  iapply (run_ret c); iapply HQ; iexact HS

end Parts

end Cert.MeanProof

end
-- ==== Proof.Body.lean ====
/-
One device's run: what it starts with dealt to the phases, the parts one after another, and at the end the
buffers whole again and every counter at zero.
-/
module

public import proofs.«01_k».proof.Proof.Parts

@[expose] public section

set_option maxRecDepth 8000

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-- A family of assertions, each weakened. -/
theorem each_mono {I : Type} {s : Finset I} {Φ Ψ : I → sProp 𝕄} (h : ∀ i ∈ s, Φ i ⊢ Ψ i) : bigSep s Φ ⊢ bigSep s Ψ := bigSep_mono h

/-! ## The pieces make up the buffers -/

theorem xSl_whole (k : Fin 8) : (xSl k.1 k.2).view.set = (xRect k.1 k.2).set := View.set_slice_whole _ _
theorem bSl_whole (k : Fin 8) : (bSl k.1 k.2).view.set = (bRect k.1 k.2).set := (View.set_reshape _ _).trans (View.set_slice_whole _ _)
theorem cSl_whole (k : Fin 15) : (cSl k.1 k.2).view.set = (cRect k.1 k.2).set := (View.set_reshape _ _).trans (View.set_slice_whole _ _)

theorem x_disjoint (k k' : Fin 8) (h : k ≠ k') : Disjoint (xRect k.1 k.2).set (xRect k'.1 k'.2).set :=
  lead_disjoint (s := S2048x1024) 0 256 (fun k : Fin 8 => ![256 * k.1, 0]) S256x1024.size (fun k => inbX k.1 k.2) (fun _ => rfl) rfl k k' h
theorem x_cover : Finset.univ.biUnion (fun k : Fin 8 => (xRect k.1 k.2).set) = Finset.univ :=
  lead_cover (s := S2048x1024) 0 256 (fun k : Fin 8 => ![256 * k.1, 0]) S256x1024.size (fun k => inbX k.1 k.2) (fun _ => rfl)
    (fun k a ha => by fin_cases a; exact absurd rfl ha; rfl) rfl (fun a ha => by fin_cases a; exact absurd rfl ha; rfl) (by decide)
theorem b_disjoint (k k' : Fin 8) (h : k ≠ k') : Disjoint (bRect k.1 k.2).set (bRect k'.1 k'.2).set :=
  lead_disjoint (s := S8x256x1024) 0 1 (fun k : Fin 8 => ![k.1, 0, 0]) S1x256x1024.size (fun k => inbB k.1 k.2) (fun _ => (Nat.one_mul _).symm) rfl k k' h
theorem b_cover : Finset.univ.biUnion (fun k : Fin 8 => (bRect k.1 k.2).set) = Finset.univ :=
  lead_cover (s := S8x256x1024) 0 1 (fun k : Fin 8 => ![k.1, 0, 0]) S1x256x1024.size (fun k => inbB k.1 k.2) (fun _ => (Nat.one_mul _).symm)
    (fun k a ha => by fin_cases a; exact absurd rfl ha; rfl; rfl) rfl (fun a ha => by fin_cases a; exact absurd rfl ha; rfl; rfl) (by decide)
theorem c_disjoint (k k' : Fin 15) (h : k ≠ k') : Disjoint (cRect k.1 k.2).set (cRect k'.1 k'.2).set :=
  lead_disjoint (s := S15x1x1024) 0 1 (fun k : Fin 15 => ![k.1, 0, 0]) S1x1x1024.size (fun k => inbC k.1 k.2) (fun _ => (Nat.one_mul _).symm) rfl k k' h
theorem c_cover : Finset.univ.biUnion (fun k : Fin 15 => (cRect k.1 k.2).set) = Finset.univ :=
  lead_cover (s := S15x1x1024) 0 1 (fun k : Fin 15 => ![k.1, 0, 0]) S1x1x1024.size (fun k => inbC k.1 k.2) (fun _ => (Nat.one_mul _).symm)
    (fun k a ha => by fin_cases a; exact absurd rfl ha; rfl; rfl) rfl (fun a ha => by fin_cases a; exact absurd rfl ha; rfl; rfl) (by decide)

/-- The device's rows, whole; -/
def xW (c : Dev nD) : sProp 𝕄 := ((c : Thread nD τ).loc main_arg0) ↦{fullShare} xC m c
/-- the chunk buffer; -/
def bufW (c : Dev nD) : sProp 𝕄 := iprop(∃ f : Buf (Elt F) ((c : Thread nD τ).loc cc0_scratch1), ((c : Thread nD τ).loc cc0_scratch1) ↦{fullShare} f)
/-- the landing buffer; -/
def comW (c : Dev nD) : sProp 𝕄 := iprop(∃ f : Buf (Elt F) ((c : Thread nD τ).loc cc0_scratch2), ((c : Thread nD τ).loc cc0_scratch2) ↦{fullShare} f)
/-- the partial sum's buffer. -/
def parW (c : Dev nD) : sProp 𝕄 := iprop(∃ f : Buf (Elt F) ((c : Thread nD τ).loc cc0_scratch0), ((c : Thread nD τ).loc cc0_scratch0) ↦{fullShare} f)

theorem xW_eq (c : Dev nD) : xW m c = bigSep Finset.univ (xPts m c) := by
  unfold xW
  rw [pointsTo_blocks (ℓ := (c : Thread nD τ).loc main_arg0) (fun k : Fin 8 => (xRect k.1 k.2).set) x_disjoint x_cover]
  refine bigSep_congr fun k _ => ?_
  unfold xPts; rw [xSl_whole]

theorem bufW_split (c : Dev nD) : bufW (F := F) c ⊢ bigSep Finset.univ fun k => iprop(∃ f, bPts c k f) := by
  unfold bufW
  iintro ⟨%f, H⟩
  ihave H := (Entails.of_eq (pointsTo_blocks (ℓ := (c : Thread nD τ).loc cc0_scratch1) (fun k : Fin 8 => (bRect k.1 k.2).set) b_disjoint b_cover f)) $$ H
  have h : ∀ k ∈ (Finset.univ : Finset (Fin 8)), (((c : Thread nD τ).loc cc0_scratch1) ↦[(bRect k.1 k.2).set]{fullShare} f : sProp 𝕄) ⊢ iprop(∃ f, bPts c k f) := fun k _ => by
    unfold bPts; rw [bSl_whole]; iintro H; iexists f; iexact H
  iapply (each_mono h); iexact H
theorem bufW_join (c : Dev nD) : (bigSep Finset.univ fun k => iprop(∃ f, bPts (F := F) c k f)) ⊢ bufW c := by
  unfold bufW
  refine (bigSep_mono fun k _ => ?_).trans (pointsTo_blocks_join_exists (ℓ := (c : Thread nD τ).loc cc0_scratch1) (fun k : Fin 8 => (bRect k.1 k.2).set) b_disjoint b_cover
    (fun _ => Classical.choice inferInstance))
  unfold bPts; rw [bSl_whole]; exact BI.Entails.refl _

theorem comW_split (c : Dev nD) : comW (F := F) c ⊢ bigSep Finset.univ fun k => iprop(∃ f, cPts c k f) := by
  unfold comW
  iintro ⟨%f, H⟩
  ihave H := (Entails.of_eq (pointsTo_blocks (ℓ := (c : Thread nD τ).loc cc0_scratch2) (fun k : Fin 15 => (cRect k.1 k.2).set) c_disjoint c_cover f)) $$ H
  have h : ∀ k ∈ (Finset.univ : Finset (Fin 15)), (((c : Thread nD τ).loc cc0_scratch2) ↦[(cRect k.1 k.2).set]{fullShare} f : sProp 𝕄) ⊢ iprop(∃ f, cPts c k f) := fun k _ => by
    unfold cPts; rw [cSl_whole]; iintro H; iexists f; iexact H
  iapply (each_mono h); iexact H
theorem comW_join (c : Dev nD) : (bigSep Finset.univ fun k => iprop(∃ f, cPts (F := F) c k f)) ⊢ comW c := by
  unfold comW
  refine (bigSep_mono fun k _ => ?_).trans (pointsTo_blocks_join_exists (ℓ := (c : Thread nD τ).loc cc0_scratch2) (fun k : Fin 15 => (cRect k.1 k.2).set) c_disjoint c_cover
    (fun _ => Classical.choice inferInstance))
  unfold cPts; rw [cSl_whole]; exact BI.Entails.refl _

theorem parW_eq (c : Dev nD) : parW (F := F) c = iprop(∃ f, pPts c fullShare f) := by
  unfold parW pPts; rw [View.set_whole]

/-! ## What the device starts with -/

/-- The tokens of send `j`'s two duties. -/
def sendTok (c : Dev nD) (j : Fin 15) : sProp 𝕄 := iprop(dutyTok ER (sendCell c j) 0 0 ∗ dutyTok ER (recvCell (peer c j) j) 0 0)

/-- What the launch deals device `c`: its places in its cells' rounds, the tokens of the duties it pays, the credits
    for what it waits for, its chunk copies' counters, and its rows. -/
def Start (c : Dev nD) : sProp 𝕄 :=
  iprop((atPos ER (barCell c) 0 ∅ 0 ∗ (bigSep Finset.univ fun j => atPos ER (sendCell c j) 0 ∅ 0) ∗ bigSep Finset.univ (dueItem c))
    ∗ ((bigSep Finset.univ fun j : Fin 15 => dutyTok ER (barCell (peer c j)) 0 j.rev) ∗ bigSep Finset.univ (sendTok c))
    ∗ cred (tallyAt (barCell c) () 15) ∗ (bigSep Finset.univ fun k => semVal (copyCell c k) 0) ∗ xW m c)
/-- The kernel's own buffers. -/
def Scr (c : Dev nD) : sProp 𝕄 := iprop(parW c ∗ bufW c ∗ comW c)
/-- Every counter of the kernel at zero. -/
def Zero (c : Dev nD) : sProp 𝕄 :=
  iprop(semVal (barCell c) 0 ∗ (bigSep Finset.univ fun k => semVal (copyCell c k) 0)
    ∗ (bigSep Finset.univ fun j => semVal (sendCell c j) 0) ∗ bigSep Finset.univ fun j => semVal (recvCell c j) 0)

/-- The reversal of the steps. -/
def revStep : Fin 15 ≃ Fin 15 := ⟨Fin.rev, Fin.rev, Fin.rev_rev, Fin.rev_rev⟩

/-- The landing slots and the tokens make up the signals to come. -/
theorem deal_signals (c : Dev nD) :
    comW (F := F) c ⊢ iprop((bigSep Finset.univ fun j : Fin 15 => dutyTok ER (barCell (peer c j)) 0 j.rev) -∗ bigSep Finset.univ (sigItem c)) := by
  have e : bigSep Finset.univ (sigItem (F := F) c) = iprop((bigSep Finset.univ fun j : Fin 15 => dutyTok ER (barCell (peer c j)) 0 j.rev)
      ∗ bigSep Finset.univ fun j : Fin 15 => iprop(∃ f, cPts (F := F) c j f)) := by
    rw [bigSep_univ_equiv revStep (fun j : Fin 15 => iprop(∃ f, cPts (F := F) c j f)), ← bigSep_sep']; rfl
  rw [e]
  iintro H Ht
  isplitl [Ht]; · iexact Ht
  iapply (comW_split c); iexact H

/-- The rows, the chunk buffer and the counters make up the copies to come. -/
theorem deal_copies (c : Dev nD) :
    xW m c ⊢ iprop(bufW c -∗ (bigSep Finset.univ fun k => semVal (copyCell c k) 0) -∗ bigSep Finset.univ (copyItem m c)) := by
  unfold copyItem
  rw [bigSep_sep', bigSep_sep', xW_eq]
  iintro Hx Hb Hv
  isplitl [Hx]; · iexact Hx
  isplitl [Hb]; · iapply (bufW_split c); iexact Hb
  iexact Hv

/-- The partial sum's shares, the slots the barrier handed over and the tokens make up the sends to come. -/
theorem deal_sends (c : Dev nD) :
    pPts c fullShare (parC m c) ⊢ iprop((bigSep Finset.univ fun d => barPay (F := F) c d) -∗ bigSep Finset.univ (sendTok c)
      -∗ (pPts c (Transfers.shareDrop fullShare 15) (parC m c) ∗ bigSep Finset.univ (sendItem m c))) := by
  unfold sendItem sendTok
  rw [bigSep_sep', bigSep_sep', bigSep_sep', bigSep_sep']
  iintro Hp Hb ⟨Hs, Hr⟩
  unfold sendPay pPts
  ihave Hp := (Transfers.pointsTo_toks_split fullShare 15) $$ Hp
  icases Hp with ⟨Hd, Ht⟩
  isplitl [Hd]; · iexact Hd
  isplitl [Hs]; · iexact Hs
  isplitl [Hr]; · iexact Hr
  isplitl [Ht]; · iexact Ht
  iexact Hb

/-! ## The end of the run -/

/-- A cell whose one round is over closes with its counter at zero. -/
theorem close_cell (K : Dev nD × CIx → ℕ) (ck : Dev nD × CIx) :
    Ctx m K ⊢ iprop(atPos ER (kcell ck) 1 ∅ 0 -∗ |={Set.univ}=> semVal (kcell ck) 0) := by
  iintro HC Hat
  iapply (Rounds.cell_close ER (sched m) (κ := K ck) (Set.mem_univ _) (fun h => h) (R := 0 + 1) (duties_later m (kcell ck)))
  isplitl [HC]; · iapply (ctx_inv m K ck); iexact HC
  iexact Hat

/-- So do all cells of a family. -/
theorem close_cells (K : Dev nD × CIx → ℕ) (c : Dev nD) (k : Fin 15 → CIx) :
    Ctx m K ⊢ iprop((bigSep Finset.univ fun j => atPos ER (kcell (c, k j)) 1 ∅ 0) -∗ |={Set.univ}=> bigSep Finset.univ fun j => semVal (kcell (c, k j)) 0) := by
  have h : iprop((bigSep Finset.univ fun _ : Fin 15 => Ctx m K) ∗ bigSep Finset.univ fun j => atPos ER (kcell (c, k j)) 1 ∅ 0)
      ⊢ |={Set.univ}=> bigSep Finset.univ fun j => semVal (kcell (c, k j)) 0 := by
    rw [← bigSep_sep']
    refine (each_mono fun j _ => ?_).trans (bigSep_fupd _ _)
    iintro ⟨HC, Hat⟩
    iapply (close_cell m K (c, k j)) $$ HC Hat
  iintro HC Hat
  iapply h
  isplitl [HC]; · iapply (BI.bigSep_of_persistent (Finset.univ : Finset (Fin 15)) (Ctx m K)); iexact HC
  iexact Hat

/-- The chunks back: the rows as they were, the chunk buffer whole, the copies' counters at zero. -/
theorem gather_copies (c : Dev nD) :
    bigSep Finset.univ (doneItem m c) ⊢ iprop(xW m c ∗ bufW c ∗ bigSep Finset.univ fun k => semVal (copyCell c k) 0) := by
  unfold doneItem
  rw [bigSep_sep', bigSep_sep', xW_eq]
  iintro ⟨Hb, Hx, Hv⟩
  isplitl [Hx]; · iexact Hx
  isplitl [Hb]
  · iapply (bufW_join c)
    have h : ∀ k ∈ (Finset.univ : Finset (Fin 8)), bPts c k (bufC m c k) ⊢ (iprop(∃ f, bPts c k f) : sProp 𝕄) := fun k _ => by
      iintro H; iexists _; iexact H
    iapply (each_mono h); iexact Hb
  iexact Hv

/-- The landing slots back: the buffer whole, the receive counters at zero. -/
theorem gather_rows (K : Dev nD × CIx → ℕ) (c : Dev nD) :
    Ctx m K ⊢ iprop(bigSep Finset.univ (landItem m c) -∗ |={Set.univ}=> (comW c ∗ bigSep Finset.univ fun j => semVal (recvCell c j) 0)) := by
  unfold landItem
  rw [bigSep_sep']
  iintro HC ⟨Hs, Hat⟩
  imod (close_cells m K c fun j => .inr (.inr j)) $$ HC Hat with Hv
  imodintro
  isplitl [Hs]
  · iapply (comW_join c)
    have h : ∀ k ∈ (Finset.univ : Finset (Fin 15)), cPts c k (comC m c k) ⊢ (iprop(∃ f, cPts c k f) : sProp 𝕄) := fun k _ => by
      iintro H; iexists _; iexact H
    iapply (each_mono h); iexact Hs
  iexact Hv

/-- The shares of the partial sum back: its buffer whole, the send counters at zero. -/
theorem gather_sends (K : Dev nD × CIx → ℕ) (c : Dev nD) :
    Ctx m K ⊢ iprop(pPts c (Transfers.shareDrop fullShare 15) (parC m c) -∗ bigSep Finset.univ (backItem m c)
      -∗ |={Set.univ}=> (parW c ∗ bigSep Finset.univ fun j => semVal (sendCell c j) 0)) := by
  unfold backItem
  rw [bigSep_sep', parW_eq]
  iintro HC Hd ⟨Hs, Hat⟩
  imod (close_cells m K c fun j => .inr (.inl j)) $$ HC Hat with Hv
  imodintro
  isplitl [Hd Hs]
  · iexists (parC m c)
    unfold sendPay pPts
    iapply (Transfers.pointsTo_toks_join fullShare 15)
    isplitl [Hd]; · iexact Hd
    iexact Hs
  iexact Hv

/-! ## The run -/

/-- Owing everything, with every signal to come. -/
theorem SA_start (c : Dev nD) : Ow c (O₀ c) ⊢ iprop(bigSep Finset.univ (sigItem (F := F) c) -∗ SA c 0) := by
  unfold SA O₀; rw [ge_zero]
  iintro HO H
  isplitl [HO]; · iexact HO
  iexact H
/-- Every copy to come. -/
theorem SB_start (c : Dev nD) : bigSep Finset.univ (copyItem m c) ⊢ SB m c 0 := by
  unfold SB; rw [ge_zero, lt_zero, bigSep_empty]
  iintro H
  isplitl [H]; · iexact H
  iempintro
/-- Every send to come. -/
theorem SE_start (c : Dev nD) : Ow c (oRecv c 0) ⊢ iprop(bigSep Finset.univ (sendItem m c) -∗ SE m c 0) := by
  unfold SE; rw [ge_zero, lt_zero, bigSep_empty]
  iintro HO H
  isplitl [HO]; · iexact HO
  isplitl [H]; · iexact H
  iempintro

/-- Every send to be waited for. -/
theorem pend_start (c : Dev nD) : bigSep Finset.univ (sentItem (F := F) c)
    ⊢ iprop((bigSep Finset.univ fun j => atPos ER (sendCell c j) 0 ∅ 0) -∗ bigSep Finset.univ (pendItem c)) := by
  unfold pendItem; rw [bigSep_sep']
  iintro H Ha
  isplitl [H]; · iexact H
  iexact Ha

/-- What the device ends with. -/
def Final (c : Dev nD) : sProp 𝕄 := iprop(Scr c ∗ Zero c ∗ xW m c ∗ oPts c (outC m c) ∗ Ow c 0)

/-- The kernel on device `c`: from what the launch deals it, owing the others their barrier units and rows, to the
    mean in the result's buffer, its rows unchanged, its buffers whole, every counter at zero and nothing owed. -/
theorem body_run (K : Dev nD × CIx → ℕ) (c : Dev nD) {Q} :
    Ctx m K ⊢ iprop(Start m c -∗ Scr c -∗ Ow c (O₀ c) -∗ (∃ f, oPts c f) -∗ (Final m c -∗ Q ⟨⟩)
      -∗ Run (F := F) c (cc0_body xM (Memref.isWhole_whole _) outM (Memref.isWhole_whole _) parM (Memref.isWhole_whole _) bufM (Memref.isWhole_whole _)
        comM (Memref.isWhole_whole _) cc0_scratch3 cc0_scratch4 cc0_scratch5) Q) := by
  rw [cc0_body_eq_skeleton]; unfold cc0_body_skel
  simp only [wp_bind, Run]
  unfold Start Scr
  rw [parW_eq]
  iintro #HC ⟨⟨HaB, HaS, Hdue⟩, ⟨HtB, HtS⟩, HcB, Hv, Hx⟩ ⟨Hpar, Hbuf, Hcom⟩ HO Hout HQ
  ihave Hsig := (deal_signals c) $$ Hcom HtB
  ihave Hcp := (deal_copies m c) $$ Hx Hbuf Hv
  ihave HA := (SA_start c) $$ HO Hsig
  ihave HB := (SB_start m c) $$ Hcp
  iapply (part1 m K c) $$ HC HA
  iintro %v2 %v30 %w %v31 HA
  iapply (part2 m K c v2 v30 w v31) $$ HC HA
  iintro %r2 HA; obtain ⟨v59, v64, v65⟩ := r2
  iapply (part3 m K c v2 v59 v64 v65) $$ HC HA
  iintro %r3 HA; obtain ⟨v95, w3, v96⟩ := r3
  iapply (part4 m K c v2 v95 w3 v96) $$ HC HA
  iintro %r4 HA; obtain ⟨v124, v129, v130⟩ := r4
  iapply (part5 m K c v2 v124 v129 v130) $$ HC HA
  iintro %r5 HA; obtain ⟨v160, w5, v161⟩ := r5
  iapply (part6 m K c v2 v160 w5 v161) $$ HC HA
  iintro %r6 HA; obtain ⟨v189, v194, v195⟩ := r6
  iapply (part7 m K c v189 v194 v195) $$ HC HA HB
  iintro HA HB
  iapply (part8 m K c) $$ HC HA HB
  iintro HS
  iapply (part9 m K c) $$ HC HS
  iintro HS
  iapply (part10 m K c) $$ HC HS
  iintro HS
  iapply (part11 m K c v2) $$ HC HS HcB HaB Hpar
  iintro %r11 HO Hdone Hp HaB Hpay; obtain ⟨v333, v334, v335⟩ := r11
  ihave Hsd := (deal_sends m c) $$ Hp Hpay HtS
  icases Hsd with ⟨Hp, Hsd⟩
  ihave HS := (SE_start m c) $$ HO Hsd
  iapply (part12 m K c v2 v333 v334 v335) $$ HC HS
  iintro %r12 HS; obtain ⟨v341, v360, v369⟩ := r12
  iapply (part13 m K c v2 v369) $$ HC HS
  iintro %r13 HS; obtain ⟨v379, v398⟩ := r13
  iapply (part14 m K c v2) $$ HC HS
  iintro %r14 HS; obtain ⟨v417, v436⟩ := r14
  iapply (part15 m K c v2 v436) $$ HC HS
  iintro %r15 HS; obtain ⟨v455, v466, v467, v468, v469⟩ := r15
  iapply (part16 m K c v2 v466 v467 v468 v469) $$ HC HS
  iintro %r16 HS; obtain ⟨v474, v493, v502, w16, z16⟩ := r16
  iapply (part17 m K c v2 v502 w16 z16) $$ HC HS
  iintro %r17 HS; obtain ⟨v512, v531⟩ := r17
  iapply (part18 m K c v2) $$ HC HS
  iintro %r18 HS; obtain ⟨v550, v569, w18⟩ := r18
  iapply (part19 m K c v2 v569 w18) $$ HC HS
  iintro %r19 HS; obtain ⟨v588, v599, v600, v601, v602, v603⟩ := r19
  iapply (part20 m K c v341 v360 v599 v600 v601 v602 v603) $$ HC HS Hdue Hp
  iintro %v607 HS Hsent Hp
  iapply (part21 m K c v379 v398 v417) $$ HC HS
  iintro HS
  iapply (part22 m K c v436 v455 v474) $$ HC HS
  iintro HS
  iapply (part23 m K c v493 v512 v531) $$ HC HS
  iintro HS
  iapply (part24 m K c v550 v569 v588) $$ HC HS
  iintro HS
  ihave Hpend := (pend_start c) $$ Hsent HaS
  iapply (part25 m K c v607) $$ HC HS Hpend Hout
  iintro HS Hland Hout
  iapply (part26 m K c) $$ HC HS
  iintro HS
  iapply (part27 m K c) $$ HC HS
  iintro HS
  simp only [Prog.lift, Prog.bind_op, Prog.bind_ret, Prog.pure_eq_ret]
  iapply (step_sent m K c 13 14 (by decide) rfl) $$ HC HS; iintro HS
  iapply (run_ret c)
  iapply (step_sent m K c 14 15 (by decide) rfl) $$ HC HS; iintro HS
  iapply (run_ret c)
  rw [wp_ret]
  ihave HS := (SG_done m c) $$ HS
  icases HS with ⟨HO, Hback⟩
  imod (gather_rows m K c) $$ HC Hland with ⟨Hcom, HzR⟩
  imod (gather_sends m K c) $$ HC Hp Hback with ⟨Hpar, HzS⟩
  imod (close_cell m K (c, .inl ())) $$ HC HaB with HzB
  ihave Hd := (gather_copies m c) $$ Hdone
  icases Hd with ⟨Hx, Hbuf, HzC⟩
  imodintro
  iapply HQ
  unfold Final Scr Zero
  isplitl [Hpar Hbuf Hcom]
  · isplitl [Hpar]; · iexact Hpar
    isplitl [Hbuf]; · iexact Hbuf
    iexact Hcom
  isplitl [HzB HzC HzS HzR]
  · isplitl [HzB]; · iexact HzB
    isplitl [HzC]; · iexact HzC
    isplitl [HzS]; · iexact HzS
    iexact HzR
  isplitl [Hx]; · iexact Hx
  isplitl [Hout]; · iexact Hout
  iexact HO

end Cert.MeanProof

end
-- ==== Proof.Launch.lean ====
/-
The launch: the sixteen devices' cells and tokens minted at once and dealt around the mesh, the credits each
device holds for what the others owe it, and the whole program's run.
-/
module

public import proofs.«01_k».proof.Proof.Body
public import Idealize.ShloMosaic.Lib.Pipeline.CollectiveSegs

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: one point, one window, the result -/

/-- What the launch hands device `c`'s body: the records at some names, and its own holdings. -/
def start (c : Dev nD) : sProp 𝕄 := iprop(∃ K, Ctx m K ∗ Start m c)
/-- Before the point, with the kernel's own buffers. -/
def Φ₀ (c : Dev nD) : sProp 𝕄 := iprop(start m c ∗ Scr c)
/-- After it: the buffers, every counter at zero, and the device's rows unchanged. -/
def Φ₁ (c : Dev nD) : sProp 𝕄 := iprop(Scr c ∗ Zero c ∗ xW m c)

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole memref held at contents `X` is its buffer held whole at `X`. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The result's staging buffer at contents `X`. -/
abbrev stgOut (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem oPts_eq (c : Dev nD) (f : Buf (Elt F) ((c : Thread nD τ).loc cc0_stg0_0)) :
    oPts c f = ((((c : Thread nD τ).loc cc0_stg0_0) ↦{fullShare} f) : sProp 𝕄) := by
  unfold oPts; rw [View.set_whole]

def bodyPre (c : Dev nD) : sProp 𝕄 :=
  iprop(Φ₀ m c ∗ (dats m 0 c).owesAt () t0_0.castSucc ∗ (∃ d, stgOut c ((dats m 0 c).before (0 : Fin 1) t0_0 d)))
def bodyPost (c : Dev nD) : sProp 𝕄 :=
  iprop(Φ₁ m c ∗ (dats m 0 c).owesAt () t0_0.succ ∗ stgOut c (outC m c))

set_option maxRecDepth 8000 in
/-- The body at the one point, as the pipeline asks for it. -/
theorem body_obligation (c : Dev nD) : BodyObligation (dats (F := F) m 0 c) (defs₀ (F := F)) 𝒱₀ () Set.univ := fun t => by
  rw [fin_N0 t]
  rw [bigSep_W0, bigSep_W0]
  simp only [owns_buf]
  show bodyPre m c ⊢ Run (F := F) c (cc0_body xM (Memref.isWhole_whole _) outM (Memref.isWhole_whole _) parM (Memref.isWhole_whole _)
    bufM (Memref.isWhole_whole _) comM (Memref.isWhole_whole _) cc0_scratch3 cc0_scratch4 cc0_scratch5) (fun _ => bodyPost m c)
  unfold bodyPre Φ₀ start Dat.owesAt Pipeline.owesWithin
  rw [show (dats m 0 c).owed t0_0.castSucc = O₀ c from rfl]
  iintro ⟨⟨⟨%K, #HC, Hst⟩, Hscr⟩, ⟨%W, %hW, HO⟩, ⟨%d, %f, %hf, Hout⟩⟩
  iapply (body_run m K c (Q := fun _ => bodyPost m c)) $$ HC Hst Hscr [HO] [Hout]
  · unfold Ow; iexists W; iexact HO
  · iexists f; rw [oPts_eq]; iexact Hout
  iintro HF
  unfold bodyPost Final Φ₁ Ow Dat.owesAt Pipeline.owesWithin
  rw [show (dats m 0 c).owed t0_0.succ = 0 from rfl, oPts_eq]
  icases HF with ⟨Hscr, Hz, Hx, Hout, ⟨%W', HO⟩⟩
  isplitl [Hscr Hz Hx]
  · isplitl [Hscr]; · iexact Hscr
    isplitl [Hz]; · iexact Hz
    iexact Hx
  isplitl [HO]
  · iexists W'
    isplitr; · ipureintro; exact fun _ _ => Or.inl trivial
    iexact HO
  iexists (outC m c)
  isplitr; · ipureintro; rfl
  iexact Hout

/-! ## The kernel's semaphores -/

/-- The kernel's own semaphores: its copies', its sends', its receives'. -/
abbrev osem : Fin 8 ⊕ (Fin 15 ⊕ Fin 15) → SemLoc sig
  | .inl k => .dma (copyS k.1 k.2)
  | .inr (.inl j) => .dma (sendS j.1 j.2)
  | .inr (.inr j) => .dma (recvS j.1 j.2)

set_option maxRecDepth 8000 in
theorem ownSemFacts : Pipeline.OwnSemFacts cfg0.spec osem := by decide

theorem share_eq (c : Dev nD) (w : Fin cfg0.W) : (dats m 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = iprop((bigSep Finset.univ fun k => semVal (copyCell c k) 0) ∗ (bigSep Finset.univ fun j => semVal (sendCell c j) 0)
        ∗ bigSep Finset.univ fun j => semVal (recvCell c j) 0) := by
  unfold Pipeline.ownSems0; rw [bigSep_univ_sum, bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's governed cells is its barrier's member, its sends' and its receives'. -/
theorem bigSep_cells (Φ : CIx → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, show (Finset.univ : Finset Unit) = {()} from rfl, bigSep_singleton]; rfl

/-! ## The launch element -/

def cells : Finset (GSem nD τ sig) := Finset.univ.map ⟨kcell, kcell_injective⟩

/-- A device's own cells' duties: a unit of its barrier for each of the others, one of each send, one of each receive. -/
abbrev tokOf (ck : Dev nD × (Fin 15 ⊕ (Fin 15 ⊕ Fin 15))) : GSem nD τ sig × ℕ × Fin 15 :=
  match ck.2 with
  | .inl d => (barCell ck.1, 0, d)
  | .inr (.inl j) => (sendCell ck.1 j, 0, 0)
  | .inr (.inr j) => (recvCell ck.1 j, 0, 0)

theorem tokOf_injective : Function.Injective tokOf := by
  rintro ⟨c, k⟩ ⟨c', k'⟩ h
  have key : ∀ a b : CIx, kcell (c, a) = kcell (c', b) → c = c' ∧ a = b := fun a b hab => Prod.mk.inj (kcell_injective hab)
  rcases k with d | j | j <;> rcases k' with d' | j' | j'
  · have e := key (.inl ()) (.inl ()) (congrArg (fun x => x.1) h)
    obtain ⟨rfl, -⟩ := e
    have : d = d' := congrArg (fun x : GSem nD τ sig × ℕ × Fin 15 => x.2.2) h
    rw [this]
  · exact absurd (key (.inl ()) (.inr (.inl j')) (congrArg (fun x => x.1) h)).2 (by simp)
  · exact absurd (key (.inl ()) (.inr (.inr j')) (congrArg (fun x => x.1) h)).2 (by simp)
  · exact absurd (key (.inr (.inl j)) (.inl ()) (congrArg (fun x => x.1) h)).2 (by simp)
  · have e := key (.inr (.inl j)) (.inr (.inl j')) (congrArg (fun x => x.1) h)
    obtain ⟨rfl, e⟩ := e
    rw [Sum.inl.inj (Sum.inr.inj e)]
  · exact absurd (key (.inr (.inl j)) (.inr (.inr j')) (congrArg (fun x => x.1) h)).2 (by simp)
  · exact absurd (key (.inr (.inr j)) (.inl ()) (congrArg (fun x => x.1) h)).2 (by simp)
  · exact absurd (key (.inr (.inr j)) (.inr (.inl j')) (congrArg (fun x => x.1) h)).2 (by simp)
  · have e := key (.inr (.inr j)) (.inr (.inr j')) (congrArg (fun x => x.1) h)
    obtain ⟨rfl, e⟩ := e
    rw [Sum.inr.inj (Sum.inr.inj e)]

def duties : Finset (GSem nD τ sig × ℕ × Fin 15) := Finset.univ.map ⟨tokOf, tokOf_injective⟩

/-- The pipeline's ghost state, this kernel's, and no local transfer under way. -/
def u₀ : UU := (initOf (Pipeline.cells cfgs cellOf_inj) (Pipeline.launchToks cfgs cellOf_inj), (initOf cells duties, 1))

theorem ownU_split : (ownU u₀ : sProp 𝕄)
    ⊢ iprop(BI.own (EP (initOf (Pipeline.cells cfgs cellOf_inj) (Pipeline.launchToks cfgs cellOf_inj))) ∗ BI.own (ER (initOf cells duties))) := by
  unfold u₀ ER
  exact BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op (initOf cells duties, (1 : Counters)))))

/-- The duty tokens of device `c`'s own cells. -/
def toks (c : Dev nD) : sProp 𝕄 :=
  iprop((bigSep Finset.univ fun d : Fin 15 => dutyTok ER (barCell c) 0 d) ∗ (bigSep Finset.univ fun j : Fin 15 => dutyTok ER (sendCell c j) 0 0)
    ∗ bigSep Finset.univ fun j : Fin 15 => dutyTok ER (recvCell c j) 0 0)

/-- What the launch element holds of device `c`. -/
def G (c : Dev nD) : sProp 𝕄 :=
  iprop((bigSep Finset.univ fun k : CIx => roundState ER (sched m) (kcell (c, k)) 0)
    ∗ (bigSep Finset.univ fun k : CIx => iprop(atPos ER (kcell (c, k)) 0 ∅ 0 ∗ reached ER (kcell (c, k)) 0)) ∗ toks c)

theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : CIx => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum, bigSep_univ_sum]; rfl
  iintro HX
  imod (Rounds.fund ER (sched m) cells duties) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The counters of the governed cells, and apart from them the copies'. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k => semVal (kcell (c, k)) 0) ∗ bigSep Finset.univ fun k => semVal (copyCell c k) 0) : sProp 𝕄) := by
  rw [ownSems0_eq, unscopedSems0_eq, bigSep_cells]
  iintro ⟨⟨HC, HS, HV⟩, HB⟩
  isplitr [HC]
  · isplitl [HB]; · iexact HB
    isplitl [HS] <;> iassumption
  iexact HC

/-- The copies' counters, as a device keeps them. -/
def copies (c : Dev nD) : sProp 𝕄 := bigSep Finset.univ fun k => semVal (copyCell c k) 0

/-- The invariants of a device's governed cells, allocated from their counters and round states. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ copies c) := by
  unfold G
  iintro ⟨Hos, Hus, Hst, Hat, Htok⟩
  ihave Hv := (sems0_eq (F := F) c) $$ [Hos Hus]
  · isplitl [Hos] <;> iassumption
  icases Hv with ⟨Hv, Hc⟩
  imod (show iprop((bigSep Finset.univ fun k : CIx => semVal (kcell (c, k)) 0) ∗ bigSep Finset.univ fun k : CIx => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  unfold copies; iexact Hc

/-- The tokens of the duties device `c` pays. -/
def payToks (c : Dev nD) : sProp 𝕄 :=
  iprop((bigSep Finset.univ fun j : Fin 15 => dutyTok ER (barCell (peer c j)) 0 j.rev) ∗ bigSep Finset.univ (sendTok c))

/-- The tokens dealt around the mesh: of a barrier, unit `15 - j` to the device `j` places back; of receive `j`, its
    token to the device `j + 1` places back; the sends' tokens stay. -/
theorem toks_around : (bigSep Finset.univ fun c : Dev nD => (toks c : sProp 𝕄)) ⊢ bigSep Finset.univ fun c : Dev nD => payToks c := by
  have hB : (bigSep Finset.univ fun c : Dev nD => bigSep Finset.univ fun d : Fin 15 => (dutyTok ER (barCell c) 0 d : sProp 𝕄))
      = bigSep Finset.univ fun c : Dev nD => bigSep Finset.univ fun j : Fin 15 => dutyTok ER (barCell (peer c j)) 0 j.rev := by
    rw [BI.bigSep_univ_comm, bigSep_univ_equiv revStep, BI.bigSep_univ_comm fun (c : Dev nD) (j : Fin 15) => (dutyTok ER (barCell (peer c j)) 0 j.rev : sProp 𝕄)]
    exact bigSep_congr fun j _ => bigSep_univ_equiv (rot j) fun c : Dev nD => (dutyTok ER (barCell c) 0 j.rev : sProp 𝕄)
  have hR : (bigSep Finset.univ fun c : Dev nD => bigSep Finset.univ fun j : Fin 15 => (dutyTok ER (recvCell c j) 0 0 : sProp 𝕄))
      = bigSep Finset.univ fun c : Dev nD => bigSep Finset.univ fun j : Fin 15 => dutyTok ER (recvCell (peer c j) j) 0 0 := by
    rw [BI.bigSep_univ_comm, BI.bigSep_univ_comm fun (c : Dev nD) (j : Fin 15) => (dutyTok ER (recvCell (peer c j) j) 0 0 : sProp 𝕄)]
    exact bigSep_congr fun j _ => bigSep_univ_equiv (rot j) fun c : Dev nD => (dutyTok ER (recvCell c j) 0 0 : sProp 𝕄)
  unfold toks payToks sendTok
  simp only [bigSep_sep']
  rw [hB, hR]

/-- What stays with device `c` of the ghost state: its positions, the tokens it pays with, its copies' counters. -/
def linear (c : Dev nD) : sProp 𝕄 :=
  iprop((bigSep Finset.univ fun k : CIx => atPos ER (kcell (c, k)) 0 ∅ 0) ∗ payToks c ∗ copies c)

/-- What the global step makes of a device's share: the records of every cell, at some names, and its own part. -/
def G' (c : Dev nD) : sProp 𝕄 := iprop(∃ K, records m K ∗ linear c)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ copies c) : sProp 𝕄)
      ⊢ bigSep Finset.univ (G' m) := by
  rw [bigSep_sep', bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok, Hc⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (show iprop(records m K ∗ bigSep Finset.univ (linear (F := F))) ⊢ bigSep Finset.univ (G' m) from
    (sep_mono_left (BI.bigSep_of_persistent Finset.univ (records m K))).trans (by
      rw [← bigSep_sep']
      exact bigSep_mono fun c _ => show iprop(records m K ∗ linear c) ⊢ G' m c from by
        unfold G'; iintro H; iexists K; iexact H))
  isplitr
  · unfold records; isplitl; · iexact HI
    iexact HR
  unfold linear; simp only [bigSep_sep']
  isplitl [Hat]; · iexact Hat
  isplitl [Htk]; · iexact Htk
  iexact Hc

/-- The global step: every device's counters and ghost state at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A sum of tallies over the steps, read at a cell: the step's amount at each step whose cell it is. -/
theorem sum_tally_at (cell : Fin 15 → GSem nD τ sig) (n : ℕ) (g : GSem nD τ sig) :
    (∑ j ∈ ge 15 0, tallyAt (cell j) () n : CellTallies nD τ sig Unit) g () = ∑ j : Fin 15, if g = cell j then n else 0 := by
  rw [ge_zero, Finset.sum_apply, Finsupp.finsetSum_apply]
  refine Finset.sum_congr rfl fun j _ => ?_
  rw [tallyAt_apply]; simp

theorem kcell_eq {a b : Dev nD} {k k' : CIx} : Iff (kcell (a, k) = kcell (b, k')) (a = b ∧ k = k') :=
  ⟨fun h => Prod.mk.inj (kcell_injective h), fun ⟨h, h'⟩ => by rw [h, h']⟩

/-- One device of the sixteen has `c` as its peer `j`. -/
theorem sum_peer (c : Dev nD) (j : Fin 15) (n : ℕ) : (∑ d : Dev nD, if c = peer d j then n else 0) = n := by
  rw [show (∑ d : Dev nD, if c = peer d j then n else 0) = ∑ d : Dev nD, if c = d then n else 0 from
    (rot j).sum_comp (fun d => if c = d then n else 0), Finset.sum_ite_eq, if_pos (Finset.mem_univ _)]

/-- The others owe device `c`'s barrier fifteen units. -/
theorem owed_bar (c : Dev nD) : (∑ d : Dev nD, O₀ d (barCell c) ()) = 15 := by
  have h (d : Dev nD) : O₀ d (barCell c) () = ∑ j : Fin 15, if c = peer d j then 1 else 0 := by
    unfold O₀ oRecv oBar
    rw [Pi.add_apply, Finsupp.add_apply, sum_tally_at, sum_tally_at, Finset.sum_eq_zero (s := Finset.univ) (f := fun j => if barCell c = recvCell (peer d j) j then N else 0), Nat.zero_add]
    · refine Finset.sum_congr rfl fun j _ => ?_
      have e : Iff (barCell c = barCell (peer d j)) (c = peer d j) := (kcell_eq (k := .inl ()) (k' := .inl ())).trans ⟨fun h => h.1, fun h => ⟨h, rfl⟩⟩
      simp only [e]
    · intro j _
      exact if_neg fun h => absurd ((kcell_eq (k := .inl ()) (k' := .inr (.inr j))).mp h).2 (by simp)
  rw [Finset.sum_congr rfl fun d _ => h d, Finset.sum_comm, Finset.sum_congr rfl fun j _ => sum_peer c j 1]; rfl

/-- One of the others owes each of its receive cells a row. -/
theorem owed_recv (c : Dev nD) (i : Fin 15) : (∑ d : Dev nD, O₀ d (recvCell c i) ()) = N := by
  have h (d : Dev nD) : O₀ d (recvCell c i) () = if c = peer d i then N else 0 := by
    unfold O₀ oRecv oBar
    rw [Pi.add_apply, Finsupp.add_apply, sum_tally_at, sum_tally_at, Finset.sum_eq_zero (s := Finset.univ) (f := fun j => if recvCell c i = barCell (peer d j) then 1 else 0), Nat.add_zero,
      Finset.sum_eq_single i]
    · have e : Iff (recvCell c i = recvCell (peer d i) i) (c = peer d i) := (kcell_eq (k := .inr (.inr i)) (k' := .inr (.inr i))).trans ⟨fun h => h.1, fun h => ⟨h, rfl⟩⟩
      simp only [e]
    · intro j _ hj
      exact if_neg fun h => hj (Sum.inr.inj (Sum.inr.inj ((kcell_eq (k := .inr (.inr i)) (k' := .inr (.inr j))).mp h).2)).symm
    · exact fun h => absurd (Finset.mem_univ _) h
    · intro j _
      exact if_neg fun h => absurd ((kcell_eq (k := .inr (.inr i)) (k' := .inl ())).mp h).2 (by simp)
  rw [Finset.sum_congr rfl fun d _ => h d, sum_peer]

theorem launch_at (g : GSem nD τ sig) {n : ℕ} (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem csem_injective : Function.Injective csem := fun _ _ h => csem_inj h

/-- A device's launch credit covers its barrier's fifteen units and its fifteen rows. -/
theorem creds (c : Dev nD) :
    (Pipeline.launchCred O₀ c : sProp 𝕄) ⊢ iprop(cred (tallyAt (barCell c) () 15) ∗ bigSep Finset.univ fun j => cred (tallyAt (recvCell c j) () N)) := by
  unfold Pipeline.launchCred
  refine (bigSep_subset (Finset.subset_univ ((Finset.univ : Finset CIx).map ⟨csem, csem_injective⟩))).trans ?_
  rw [show ∀ Φ : SemLoc sig → sProp 𝕄, bigSep ((Finset.univ : Finset CIx).map ⟨csem, csem_injective⟩) Φ = bigSep Finset.univ fun k => Φ (csem k)
    from fun Φ => bigSep_map _, bigSep_cells, launch_at _ (owed_bar c),
    bigSep_congr (s := (Finset.univ : Finset (Fin 15))) fun j _ => congrArg cred (launch_at (recvCell c j) (owed_recv c j))]
  show (iprop(_ ∗ _ ∗ _) : sProp 𝕄) ⊢ _
  iintro ⟨HB, -, HR⟩
  isplitl [HB]; · iexact HB
  iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨HB, HN⟩
  imodintro
  unfold start G' linear payToks copies
  icases HG with ⟨%K, HR, Hat, Htk, Hcp⟩
  ihave Hat := (Entails.of_eq (bigSep_cells fun k : CIx => (atPos ER (kcell (c, k)) 0 ∅ 0 : sProp 𝕄))) $$ Hat
  icases Hat with ⟨HaB, HaS, HaR⟩
  isplitl
  · iexists K
    isplitl [HR Hlev]
    · unfold Ctx; isplitl [HR] <;> iassumption
    unfold Start
    isplitl [HaB HaS HaR HN]
    · isplitl [HaB]; · iexact HaB
      isplitl [HaS]; · iexact HaS
      unfold dueItem; rw [bigSep_sep']
      isplitl [HN]; · iexact HN
      iexact HaR
    isplitl [Htk]; · iexact Htk
    isplitl [HB]; · iexact HB
    isplitl [Hcp]; · iexact Hcp
    unfold xW xC; iexact Hx
  · iempintro

theorem scr_eq (c : Dev nD) : (Pipeline.scopedRest cfg0.spec c : sProp 𝕄) = Scr c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop((unscopedSems0 c ∗ xW m c) ∗ Pipeline.ownSems0 osem c ∗ Pipeline.scopedRest cfg0.spec c) := by
  rw [show (dats m 0 c).Φ (Fin.last cfg0.N) = Φ₁ m c from rfl, scr_eq, ownSems0_eq, unscopedSems0_eq]
  unfold Φ₁ Zero
  iintro ⟨Hr, ⟨HzB, HzC, HzS, HzR⟩, Hx⟩
  isplitl [HzB Hx]
  · isplitl [HzB] <;> iassumption
  isplitl [HzC HzS HzR]
  · isplitl [HzC]; · iexact HzC
    isplitl [HzS] <;> iassumption
  iexact Hr

/-- The pipeline's own waits lie below everything owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) 0 0
    · have h := mayWait_low (F := F) c _ (by fin_cases w <;> fin_cases s <;> decide : kindOf (SemLoc.dma ((cfg0.spec w).sem s)) = none) 15 15
      rw [oRecv_end, oBar_end, add_zero] at h; exact h

/-! ## The run -/

/-- The result's array after the run. -/
def finalA (c : Dev nD) (w : Fin cfg0.W) : Buf (Elt F) ((cfg0.win w).arr.view.loc (c : Thread nD τ)) := (dats m 0 c).arrAt w cfg0.N

/-- A whole buffer read off the memory. -/
theorem x_read (c : Dev nD) (s' : Phys nD τ sig (Elt F)) :
    iprop(SI s' ∗ xW m c) ⊢ (⌜s'.mem.mem ((c : Thread nD τ).loc main_arg0) = m ((c : Thread nD τ).loc main_arg0)⌝ : sProp 𝕄) := by
  unfold xW
  refine SI_pointsTo_agree.trans (BI.pure_mono fun h => funext fun i => h i (Finset.mem_univ i))

set_option maxRecDepth 8000 in
/-- On the sixteen devices, for any float values, from any memory with zero counters: the program always ends, with
    each device's result array at the computed contents, its rows unchanged and every semaphore counter at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := ownU_split $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ xW m c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Hx⟩, -, HSI⟩
      ihave %hx := (x_read m c s') $$ [Hx HSI]
      · isplitl [HSI] <;> iassumption
      imod (Pipeline.unscopedSems0_read (X := unscopedSems0 c) (c := c) fupd_intro s') $$ [Hu HSI] with ⟨%h, HSI⟩
      · isplitl [Hu] <;> iassumption
      imodintro
      isplitr; · ipureintro; exact ⟨hx, h⟩
      iexact HSI)
    (hQ := fun _ h hs => ⟨fun c => ⟨(h c).1, (h c).2.2.1⟩, sem_eq_zero hs fun c => (h c).2.2.2⟩)

end Cert.MeanProof

end
-- ==== Proof.Value.lean ====
/-
The result at the exact instance: each device's row is the sum of all 32768 rows, by
columns, times 2^-15, which is what the reference computes.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Layout
public import Idealize.ShloMosaic.Lib.ViewIndex
public import Idealize.ShloMosaic.Lib.IdealHost
public import Idealize.ShloMosaic.Lib.Pointwise.Index
public import Idealize.ShloMosaic.Lib.Pointwise.Reduce
public import Idealize.ShloMosaic.Lib.Pointwise.Reshape
public import Idealize.ShloMosaic.Lib.Pipeline.Value
public import Idealize.ShloMosaic.Lib.Pipeline.ValueKit.Geometry

@[expose] public section

noncomputable section

namespace Cert.MeanProof

open Cert.KernelIdeal Cert.KernelIdeal.Gen
open Idealize.ShloMosaic
open Idealize.ShloMosaic.TcCoe
open Idealize.SL Idealize.SL.Sem

/-! ## What the kernel loads, for any float values -/

section Loads

variable {F : FTy → Type} [FloatOps F]
variable (m : (ℓ : Loc nD τ sig) → Buf (Elt F) ℓ)

/-- A chunk as loaded, without its unit axis, is the copied rows. -/
theorem chunk_read (c : Dev nD) (k : Fin 8) :
    shapeCast S256x1024 (chunkV m c k) shapeCasts_S1x256x1024_S256x1024 = (xSl k.1 k.2).view.read (Elt F) (xC m c) := by
  funext i
  have H := View.read_write_reshape (Val := Elt F) ((bufM : Memref sig .tc .vmem S8x256x1024 .bf16).view.slice (bRect k.1 k.2))
    squeezes_S1x256x1024_S256x1024.numel_eq
    (m ((c : Thread nD τ).loc cc0_scratch1)) ((xSl k.1 k.2).view.read (Elt F) (xC m c)) i
  exact H

/-- A landed row as loaded, without its unit axis, is the sender's partial sum. -/
theorem land_read (c : Dev nD) (j : Fin 15) :
    shapeCast S1x1024 (landV m c j) shapeCasts_S1x1x1024_S1x1024 = parC m (peer c j.rev) := by
  funext i
  have H := View.read_write_reshape (Val := Elt F) ((comM : Memref sig .tc .vmem S15x1x1024 .f32).view.slice (cRect j.1 j.2))
    squeezes_S1x1x1024_S1x1024.numel_eq
    (m ((c : Thread nD τ).loc cc0_scratch2)) ((parM : Memref sig .tc .vmem S1x1024 .f32).view.read (Elt F) (parC m (peer c j.rev))) i
  exact H

/-- Row `r` of chunk `k` is row `256 k + r`. -/
theorem xSl_read (c : Dev nD) (k : Fin 8) (r : Fin 256) (l : Fin 1024) :
    (xSl k.1 k.2).view.read (Elt F) (xC m c) (ix2 r l) = xC m c (ix2 (⟨256 * k.1 + r.1, by omega⟩ : Fin 2048) l) := by
  show xC m c _ = xC m c _
  congr 1
  funext a
  apply Fin.ext
  match a with
  | ⟨0, _⟩ => show 256 * k.1 + 1 * r.1 = 256 * k.1 + r.1; omega
  | ⟨1, _⟩ => show 0 + 1 * l.1 = l.1; omega

end Loads

/-! ## The sums, exactly -/

variable (m : (ℓ : Loc nD τ sig) → Buf (Elt Ideal) ℓ)

/-- Device `c`'s element at row `r` and column `l`, as an extended real. -/
def elt (c : Dev nD) (l : Fin 1024) (r : Fin 2048) : EReal := xC m c (ix2 r l)

/-- A chunk's share of the partial sum, at a column, is the sum of the chunk's rows there. -/
theorem chunk_sum (c : Dev nD) (k : Fin 8) (i : S1x1024.Idx) :
    shapeCast S1x1024 (multiReduction (F := Ideal) .add [0] S1024 (extf .f32 (shapeCast S256x1024 (chunkV m c k) shapeCasts_S1x256x1024_S256x1024) bitsLt_bf16_f32)
      0x00000000#32 reduces_S256x1024_S1024 (.inl rfl) rfl) shapeCasts_S1024_S1x1024 i
    = ∑ r : Fin 256, elt m c (i 1) ⟨256 * k.1 + r.1, by omega⟩ := by
  rw [chunk_read]
  refine (shapeCast_addUnit_apply ![1024] _ _ i).trans ?_
  refine (Ideal.reduceAdd_r2_a0 (n0 := 256) (n1 := 1024) reduces_S256x1024_S1024 _ _).trans ?_
  refine Finset.sum_congr rfl fun r _ => ?_
  exact xSl_read m c k r (i 1)

/-- A sum over the rows of a device is the sum, chunk by chunk, of the sums over each chunk's rows. -/
theorem sum_chunks (f : Fin 2048 → EReal) :
    ∑ r : Fin 2048, f r = ∑ k : Fin 8, ∑ r : Fin 256, f ⟨256 * k.1 + r.1, by omega⟩ := by
  rw [← Fintype.sum_prod_type']
  refine (Fintype.sum_equiv (finProdFinEquiv (m := 8) (n := 256)) _ _ fun p => ?_).symm
  congr 1; apply Fin.ext; show 256 * p.1.1 + p.2.1 = p.2.1 + 256 * p.1.1; omega

/-- A device's partial sum, at a column, is the sum of its rows there. -/
theorem parC_apply (c : Dev nD) (i : S1x1024.Idx) : (parC m c i : EReal) = ∑ r : Fin 2048, elt m c (i 1) r := by
  rw [sum_chunks, Fin.sum_univ_eight]
  simp only [← chunk_sum]
  unfold parC acc3 acc2 k0_pay4 k0_pay3 k0_pay2 k0_pay1
  rw [shapeCast_self]
  simp only [addf, broadcast]
  simp only [Ideal.addf_def, Scalar.ofBits, Ideal.ofBits_def, Ideal.ofBits_zero_f32, zero_add]

/-- The device's own row and the fifteen landed ones are the sixteen devices' rows. -/
theorem sum_peers (f : Dev nD → EReal) (c : Dev nD) : f c + ∑ j : Fin 15, f (peer c j.rev) = ∑ d : Dev nD, f d := by
  have h : Finset.univ.map ⟨fun j : Fin 15 => peer c j.rev, by revert c; decide⟩ = Finset.univ.erase c := by revert c; decide
  rw [← Finset.add_sum_erase _ f (Finset.mem_univ c), ← h, Finset.sum_map]; rfl

/-- A device's result, at an index, is the sum of all devices' partial sums there, times the word of 2^-15. -/
theorem outC_apply (c : Dev nD) (i : S1x1024.Idx) :
    (outC m c i : EReal) = (∑ d : Dev nD, parC m d i) * Ideal.ofBits .f32 0x38000000#32 := by
  rw [← sum_peers (fun d => parC m d i) c]
  simp only [Fin.sum_univ_succ, Fin.sum_univ_zero, ← land_read]
  unfold outC tot9 tot8 tot7 tot6 tot5 k0_pay10 k0_pay9 k0_pay8 k0_pay7 k0_pay6 k0_pay5
  simp only [addf, mulf, broadcast]
  simp only [Ideal.addf_def, Ideal.mulf_def, Scalar.ofBits, Ideal.ofBits_def, add_zero, add_assoc]
  rfl

/-- The word of 2^-15 -/
theorem ofBits_inv : Ideal.ofBits .f32 0x38000000#32 = (((1 : ℝ) / 32768 : ℝ) : EReal) := by
  simp [Ideal.ofBits, Ideal.ieee, -EReal.coe_mul]; norm_num
/-- and the word of 2^15. -/
theorem ofBits_rows : Ideal.ofBits .f32 0x47000000#32 = ((32768 : ℝ) : EReal) := by
  simp [Ideal.ofBits, Ideal.ieee, -EReal.coe_mul]; norm_num

/-- A sum over all rows is the sum, device by device, of the sums over each device's rows. -/
theorem sum_devices (f : Fin 32768 → EReal) :
    ∑ r : Fin 32768, f r = ∑ d : Dev nD, ∑ r : Fin 2048, f ⟨d.val * 2048 + r.1, by have := d.isLt; change d.val < 16 at this; omega⟩ := by
  rw [← Fintype.sum_prod_type']
  refine (Fintype.sum_equiv (finProdFinEquiv (m := 16) (n := 2048)) _ _ fun p => ?_).symm
  congr 1; apply Fin.ext; show p.1.1 * 2048 + p.2.1 = p.2.1 + 2048 * p.1.1; omega

/-- The reference's result from its argument: the sum of the rows, by columns, over their number. -/
abbrev meanOf (X : Vec Ideal Cert.ReferenceIdeal.S32768x1024 .bf16) : FVec Ideal Cert.ReferenceIdeal.S1x1024 .f32 :=
  Host.divf (broadcastInDim Cert.ReferenceIdeal.S1x1024 ![1] Cert.ReferenceIdeal.Gen.bcast_S1024_S1x1024_1
      (Host.reduceAdd (extf .f32 X Cert.ReferenceIdeal.Gen.bitsLt_bf16_f32) (constant Cert.ReferenceIdeal.S_ .f32 0x00000000#32)
        Cert.ReferenceIdeal.Gen.reducesTo_S32768x1024_S1024_d0 Cert.ReferenceIdeal.Gen.h_S_))
    (broadcastInDim Cert.ReferenceIdeal.S1x1024 ![] Cert.ReferenceIdeal.Gen.bcast_S_S1x1024 (constant Cert.ReferenceIdeal.S_ .f32 0x47000000#32))

/-- The sum of the reference's rows at a column. -/
theorem hostSum_apply (X : Vec Ideal Cert.ReferenceIdeal.S32768x1024 .bf16) (j : Cert.ReferenceIdeal.S1024.Idx) :
    (Host.reduceAdd (F := Ideal) (extf .f32 X Cert.ReferenceIdeal.Gen.bitsLt_bf16_f32) (constant Cert.ReferenceIdeal.S_ .f32 0x00000000#32)
        Cert.ReferenceIdeal.Gen.reducesTo_S32768x1024_S1024_d0 Cert.ReferenceIdeal.Gen.h_S_ j : EReal)
      = ∑ r : Fin 32768, (X (ix2 r (j 0)) : EReal) := by
  refine (Ideal.hostReduceAdd_r2_a0 (n0 := 32768) (n1 := 1024) Cert.ReferenceIdeal.Gen.reducesTo_S32768x1024_S1024_d0 _ _ j).trans ?_
  rw [show (constant (F := Ideal) Cert.ReferenceIdeal.S_ .f32 0x00000000#32 _ : EReal) = 0 from Ideal.ofBits_zero_f32, zero_add]
  rfl

/-- The reference's result at an index is the sum of the rows at its column, times 2^-15. -/
theorem meanOf_apply (X : Vec Ideal Cert.ReferenceIdeal.S32768x1024 .bf16) (i : Cert.ReferenceIdeal.S1x1024.Idx) :
    (meanOf X i : EReal) = (∑ r : Fin 32768, (X (ix2 r (i 1)) : EReal)) * (((1 : ℝ) / 32768 : ℝ) : EReal) := by
  refine (congrArg₂ Ideal.div (hostSum_apply X _) ofBits_rows).trans ?_
  rw [Ideal.div_coe (by norm_num)]
  rfl

/-- When each device holds its block of the reference's rows, each device's result is the reference's. -/
theorem outC_eq (X : Vec Ideal Cert.ReferenceIdeal.S32768x1024 .bf16)
    (hX : ∀ d : Dev nD, xC m d = Layout.block ⟨2, ![2048, 1024]⟩ ⟨2, ![32768, 1024]⟩ 0 16 d X) (c : Dev nD) :
    outC m c = meanOf X := by
  funext i
  refine (outC_apply m c i).trans ((meanOf_apply X i).trans ?_).symm
  rw [ofBits_inv, sum_devices]
  simp only [parC_apply]
  congr 1
  refine Finset.sum_congr rfl fun d _ => Finset.sum_congr rfl fun r _ => ?_
  unfold elt
  rw [hX d, Layout.block_apply]
  congr 1
  funext a; apply Fin.ext
  match a with
  | ⟨0, _⟩ => rfl
  | ⟨1, _⟩ => rfl

/-! ## The result array after the run -/

/-- The result window's one block is the whole array: it ends holding what the body left. -/
theorem finalA_out {F : FTy → Type} [FloatOps F] (m : (ℓ : Loc nD τ sig) → Buf (Elt F) ℓ) (c : Dev nD) :
    finalA m c (0 : Fin 1) = outC m c := by
  unfold finalA
  exact (dats m 0 c).arrAt_eq_of_after_last (0 : Fin 1) (0 : Fin 1) (show win0_0.WholeAt (⟨0, by decide⟩ : Fin grid0.N) from by decide +kernel) _ (fun j => rfl)

/-! ## The claims -/

/-- The two programs have the same text, so the same body table. -/
theorem defs₀_eq : (Cert.Kernel.defs₀ (F := Bits)) = (Cert.KernelIdeal.defs₀ (F := Bits)) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- The kernel, bit for bit: it ends with its argument unchanged and every counter at zero. -/
theorem frame_kernel : Cert.quiescent_Kernel := fun m ρ _ =>
  have H := (θ_run (Cert.KernelIdeal.defs (F := Bits)) (onTc (τ := τ) (main (F := Bits))) ⟨m, fun _ => 0, ρ⟩).mono
    (Q' := fun r => (∀ c : Dev nD, r.2.mem ((c.tc : Thread nD τ).loc main_arg0) = m ((c.tc : Thread nD τ).loc main_arg0)) ∧ r.2.sem = fun _ => 0)
    (fun _ h => ⟨fun c => (h.1 c).2, h.2⟩) (run_main (F := Bits) m ρ)
  (congrArg (fun D => (θ_run (Pipeline.defs Cert.KernelIdeal.pcfgs D) (onTc (τ := τ) (main (F := Bits))) ⟨m, fun _ => 0, ρ⟩)
    (fun r => (∀ c : Dev nD, r.2.mem ((c.tc : Thread nD τ).loc main_arg0) = m ((c.tc : Thread nD τ).loc main_arg0)) ∧ r.2.sem = fun _ => 0))
    defs₀_eq).mpr H

/-- The kernel over exact values: likewise. -/
theorem frame_ideal : Cert.quiescent_KernelIdeal := fun m ρ _ =>
  (θ_run Cert.KernelIdeal.defs _ _).mono (fun _ h => ⟨fun c => (h.1 c).2, h.2⟩) (run_main (F := Ideal) m ρ)

/-- The reference: likewise; it declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- From devices holding the blocks of the reference's rows, every device's result is the reference's mean. -/
theorem value : Cert.algebraic_KernelIdeal_ReferenceIdeal := by
  intro m ρ m' ρ' _ hX
  refine ⟨meanOf (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun r h c => ⟨((h.1 c).1 (0 : Fin 1)).trans ((finalA_out m c).trans (outC_eq m _ hX c)), (h.1 c).2⟩) (run_main (F := Ideal) m ρ)
  · exact (θ_run Cert.ReferenceIdeal.defs _ _).mono (fun r h => ⟨(h 0).1, (h 0).2⟩) (Cert.ReferenceIdeal.Value.run (F := Ideal) m' ρ')

end Cert.MeanProof

end
-- ==== Proof.lean ====
module

public import proofs.«01_k».proof.Proof.Gen.ReferenceIdeal.Run
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MeanProof.frame_kernel, Cert.MeanProof.frame_ideal, Cert.MeanProof.frame_ref, trivial, Cert.MeanProof.value⟩

end Cert.Proof

end
